-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x1024 : Shape := ⟨2, ![1024, 1024]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1x2048x1024 .f32) (main_arg1 : FVec F S1024x1024 .f32) (main_arg2 : FVec F S64x64 .f32) (main_arg3 : FVec F S64x64 .f32) (main_arg4 : FVec F S64 .f32) (main_arg5 : FVec F S64x1 .f32) (main_arg6 : FVec F S1 .f32) (main_arg7 : FVec F S1024x1024 .f32) (main_arg8 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S1x2048x1024 : Shape := ⟨3, ![1, 2048, 1024]⟩
abbrev S1024x1024 : Shape := ⟨2, ![1024, 1024]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024 : Shape := ⟨1, ![1024]⟩
abbrev S8x256x69 : Shape := ⟨3, ![8, 256, 69]⟩
abbrev S16x1024 : Shape := ⟨2, ![16, 1024]⟩
abbrev S2048x1024 : Shape := ⟨2, ![2048, 1024]⟩
abbrev S16x16 : Shape := ⟨2, ![16, 16]⟩
abbrev S_ : Shape := ⟨0, ![]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x2048 : Shape := ⟨2, ![1024, 2048]⟩
abbrev S1x64x1x1 : Shape := ⟨4, ![1, 64, 1, 1]⟩
abbrev S16x64x16x1 : Shape := ⟨4, ![16, 64, 16, 1]⟩
abbrev S1024x16 : Shape := ⟨2, ![1024, 16]⟩
abbrev S1x64 : Shape := ⟨2, ![1, 64]⟩
abbrev S16x64 : Shape := ⟨2, ![16, 64]⟩
abbrev S1x1024 : Shape := ⟨2, ![1, 1024]⟩
abbrev S256x1024 : Shape := ⟨2, ![256, 1024]⟩
abbrev S256x2048 : Shape := ⟨2, ![256, 2048]⟩
abbrev S2304x1024 : Shape := ⟨2, ![2304, 1024]⟩
abbrev S1x256x69 : Shape := ⟨3, ![1, 256, 69]⟩
abbrev S69x256x16 : Shape := ⟨3, ![69, 256, 16]⟩
abbrev S256x69 : Shape := ⟨2, ![256, 69]⟩
abbrev S512x1024 : Shape := ⟨2, ![512, 1024]⟩
abbrev S320x1024 : Shape := ⟨2, ![320, 1024]⟩
abbrev S256x16 : Shape := ⟨2, ![256, 16]⟩
abbrev S1x256x16 : Shape := ⟨3, ![1, 256, 16]⟩
abbrev S256x1 : Shape := ⟨2, ![256, 1]⟩

abbrev nBuf : Space → Nat
  | .hbm => 63
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1024x1024, .f32⟩
  | .hbm, ⟨8, _⟩ => ⟨S1024, .f32⟩
  | .hbm, ⟨9, _⟩ => ⟨S8x256x69, .f32⟩
  | .hbm, ⟨10, _⟩ => ⟨S16x1024, .f32⟩
  | .hbm, ⟨11, _⟩ => ⟨S2048x1024, .f32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i1⟩
  | .hbm, ⟨18, _⟩ => ⟨S16x16, .f32⟩
  | .hbm, ⟨19, _⟩ => ⟨S16x1x16x1, .f32⟩
  | .hbm, ⟨20, _⟩ => ⟨S1x64x1x64, .f32⟩
  | .hbm, ⟨21, _⟩ => ⟨S16x64x16x64, .f32⟩
  | .hbm, ⟨22, _⟩ => ⟨S16x64x16x64, .f32⟩
  | .hbm, ⟨23, _⟩ => ⟨S16x64x16x64, .f32⟩
  | .hbm, ⟨24, _⟩ => ⟨S1024x1024, .f32⟩
  | .hbm, ⟨25, _⟩ => ⟨S16x1x16x1, .f32⟩
  | .hbm, ⟨26, _⟩ => ⟨S1x64x1x64, .f32⟩
  | .hbm, ⟨27, _⟩ => ⟨S16x64x16x64, .f32⟩
  | .hbm, ⟨28, _⟩ => ⟨S16x64x16x64, .f32⟩
  | .hbm, ⟨29, _⟩ => ⟨S16x64x16x64, .f32⟩
  | .hbm, ⟨30, _⟩ => ⟨S1024x1024, .f32⟩
  | .hbm, ⟨31, _⟩ => ⟨S1024x2048, .f32⟩
  | .hbm, ⟨32, _⟩ => ⟨S1024x2048, .bf16⟩
  | .hbm, ⟨33, _⟩ => ⟨S16x1x16x1, .f32⟩
  | .hbm, ⟨34, _⟩ => ⟨S1x64x1x1, .f32⟩
  | .hbm, ⟨35, _⟩ => ⟨S16x64x16x1, .f32⟩
  | .hbm, ⟨36, _⟩ => ⟨S16x64x16x1, .f32⟩
  | .hbm, ⟨37, _⟩ => ⟨S16x64x16x1, .f32⟩
  | .hbm, ⟨38, _⟩ => ⟨S1024x16, .f32⟩
  | .hbm, ⟨39, _⟩ => ⟨S1024x16, .bf16⟩
  | .hbm, ⟨40, _⟩ => ⟨S1x64, .f32⟩
  | .hbm, ⟨41, _⟩ => ⟨S16x64, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S16x1024, .bf16⟩
  | .hbm, ⟨51, _⟩ => ⟨S2048x1024, .bf16⟩
  | .hbm, ⟨52, _⟩ => ⟨S2048x1024, .bf16⟩
  | .hbm, ⟨53, _⟩ => ⟨S2048x1024, .bf16⟩
  | .hbm, ⟨54, _⟩ => ⟨S_, .i32⟩
  | .hbm, ⟨55, _⟩ => ⟨S_, .bf16⟩
  | .hbm, ⟨56, _⟩ => ⟨S2304x1024, .bf16⟩
  | .hbm, ⟨57, _⟩ => ⟨S_, .i32⟩
  | .hbm, ⟨58, _⟩ => ⟨S_, .bf16⟩
  | .hbm, ⟨59, _⟩ => ⟨S2304x1024, .bf16⟩
  | .hbm, ⟨60, _⟩ => ⟨S1024x1024, .bf16⟩
  | .hbm, ⟨61, _⟩ => ⟨S2048x1024, .f32⟩
  | .hbm, ⟨62, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x2048, .bf16⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x256x69, .f32⟩
  | .local _ .vmem, ⟨24, _⟩ => ⟨S1x256x69, .f32⟩
  | .local _ .vmem, ⟨25, _⟩ => ⟨S1024x1024, .bf16⟩
  | .local _ .vmem, ⟨26, _⟩ => ⟨S1024x16, .bf16⟩
  | .local _ .vmem, ⟨27, _⟩ => ⟨S16x1024, .bf16⟩
  | .local _ .vmem, ⟨28, _⟩ => ⟨S1x1024, .f32⟩
  | .local _ .vmem, ⟨29, _⟩ => ⟨S256x1024, .f32⟩
  | .local _ .vmem, ⟨30, _⟩ => ⟨S256x1024, .f32⟩
  | .local _ .vmem, ⟨31, _⟩ => ⟨S69x256x16, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23_0 : Ref sig .tc := ⟨.hbm, 51, rfl⟩
abbrev main_v23_1 : Ref sig .tc := ⟨.hbm, 52, rfl⟩
abbrev main_v23_2 : Ref sig .tc := ⟨.hbm, 53, rfl⟩
abbrev main_c_2 : Ref sig .tc := ⟨.hbm, 54, rfl⟩
abbrev main_call3_v0 : Ref sig .tc := ⟨.hbm, 55, rfl⟩
abbrev main_v24 : Ref sig .tc := ⟨.hbm, 56, rfl⟩
abbrev main_c_3 : Ref sig .tc := ⟨.hbm, 57, rfl⟩
abbrev main_call4_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem11_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x69 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x16 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S1x2048x1024 : Shape := ⟨3, ![1, 2048, 1024]⟩
abbrev S1024x1024 : Shape := ⟨2, ![1024, 1024]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024 : Shape := ⟨1, ![1024]⟩
abbrev S2048x32 : Shape := ⟨2, ![2048, 32]⟩
abbrev S1x2048x16x64 : Shape := ⟨4, ![1, 2048, 16, 64]⟩
abbrev S_ : Shape := ⟨0, ![]⟩
abbrev S2048x32x1 : Shape := ⟨3, ![2048, 32, 1]⟩
abbrev S1x1x1 : Shape := ⟨3, ![1, 1, 1]⟩
abbrev S1x2048x32x16x64 : Shape := ⟨5, ![1, 2048, 32, 16, 64]⟩
abbrev S1x2048x1x16x64 : Shape := ⟨5, ![1, 2048, 1, 16, 64]⟩
abbrev S1x1x1x1x64 : Shape := ⟨5, ![1, 1, 1, 1, 64]⟩
abbrev S1x2048x32x16x1 : Shape := ⟨5, ![1, 2048, 32, 16, 1]⟩
abbrev S1x2048x32x16 : Shape := ⟨4, ![1, 2048, 32, 16]⟩
abbrev S1x2048x16 : Shape := ⟨3, ![1, 2048, 16]⟩
abbrev S1x2048x1x16 : Shape := ⟨4, ![1, 2048, 1, 16]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1024x1024, .f32⟩
  | .hbm, ⟨8, _⟩ => ⟨S1024, .f32⟩
  | .hbm, ⟨9, _⟩ => ⟨S2048x32, .i32⟩
  | .hbm, ⟨10, _⟩ => ⟨S1x2048x1024, .f32⟩
  | .hbm, ⟨11, _⟩ => ⟨S1x2048x16x64, .f32⟩
  | .hbm, ⟨12, _⟩ => ⟨S_, .i32⟩
  | .hbm, ⟨13, _⟩ => ⟨S2048x32, .i32⟩
  | .hbm, ⟨14, _⟩ => ⟨S2048x32, .i1⟩
  | .hbm, ⟨15, _⟩ => ⟨S_, .i32⟩
  | .hbm, ⟨16, _⟩ => ⟨S2048x32, .i32⟩
  | .hbm, ⟨17, _⟩ => ⟨S2048x32, .i32⟩
  | .hbm, ⟨18, _⟩ => ⟨S2048x32, .i32⟩
  | .hbm, ⟨19, _⟩ => ⟨S2048x32x1, .i32⟩
  | .hbm, ⟨20, _⟩ => ⟨S1, .i32⟩
  | .hbm, ⟨21, _⟩ => ⟨S_, .i32⟩
  | .hbm, ⟨22, _⟩ => ⟨S2048x32x1, .i32⟩
  | .hbm, ⟨23, _⟩ => ⟨S2048x32x1, .i1⟩
  | .hbm, ⟨24, _⟩ => ⟨S1x1x1, .i32⟩
  | .hbm, ⟨25, _⟩ => ⟨S2048x32x1, .i32⟩
  | .hbm, ⟨26, _⟩ => ⟨S2048x32x1, .i1⟩
  | .hbm, ⟨27, _⟩ => ⟨S2048x32x1, .i1⟩
  | .hbm, ⟨28, _⟩ => ⟨S_, .i1⟩
  | .hbm, ⟨29, _⟩ => ⟨S2048x32, .i1⟩
  | .hbm, ⟨30, _⟩ => ⟨S1x2048x32x16x64, .f32⟩
  | .hbm, ⟨31, _⟩ => ⟨S1x2048x32x16x64, .i1⟩
  | .hbm, ⟨32, _⟩ => ⟨S_, .f32⟩
  | .hbm, ⟨33, _⟩ => ⟨S1x2048x32x16x64, .f32⟩
  | .hbm, ⟨34, _⟩ => ⟨S1x2048x32x16x64, .f32⟩
  | .hbm, ⟨35, _⟩ => ⟨S1x2048x16x64, .f32⟩
  | .hbm, ⟨36, _⟩ => ⟨S1x2048x32x16x64, .f32⟩
  | .hbm, ⟨37, _⟩ => ⟨S1x2048x1x16x64, .f32⟩
  | .hbm, ⟨38, _⟩ => ⟨S1x2048x32x16x64, .f32⟩
  | .hbm, ⟨39, _⟩ => ⟨S1x2048x32x16x64, .f32⟩
  | .hbm, ⟨40, _⟩ => ⟨S1x1x1x1x64, .f32⟩
  | .hbm, ⟨41, _⟩ => ⟨S1x2048x32x16x64, .f32⟩
  | .hbm, ⟨42, _⟩ => ⟨S1x2048x32x16x64, .f32⟩
  | .hbm, ⟨43, _⟩ => ⟨S_, .f32⟩
  | .hbm, ⟨44, _⟩ => ⟨S1x2048x32x16x64, .f32⟩
  | .hbm, ⟨45, _⟩ => ⟨S1x2048x32x16x64, .f32⟩
  | .hbm, ⟨46, _⟩ => ⟨S1x2048x32x16x1, .f32⟩
  | .hbm, ⟨47, _⟩ => ⟨S1x2048x32x16, .f32⟩
  | .hbm, ⟨48, _⟩ => ⟨S_, .f32⟩
  | .hbm, ⟨49, _⟩ => ⟨S1x2048x32x16, .f32⟩
  | .hbm, ⟨50, _⟩ => ⟨S1x2048x32x16, .f32⟩
  | .hbm, ⟨51, _⟩ => ⟨S_, .f32⟩
  | .hbm, ⟨52, _⟩ => ⟨S1x2048x16, .f32⟩
  | .hbm, ⟨53, _⟩ => ⟨S_, .f32⟩
  | .hbm, ⟨54, _⟩ => ⟨S1x2048x16, .f32⟩
  | .hbm, ⟨55, _⟩ => ⟨S1x2048x16, .f32⟩
  | .hbm, ⟨56, _⟩ => ⟨S1x2048x1x16, .f32⟩
  | .hbm, ⟨57, _⟩ => ⟨S1x2048x32x16, .f32⟩
  | .hbm, ⟨58, _⟩ => ⟨S1x2048x32x16, .f32⟩
  | .hbm, ⟨59, _⟩ => ⟨S1x2048x32x16, .f32⟩
  | .hbm, ⟨60, _⟩ => ⟨S_, .f32⟩
  | .hbm, ⟨61, _⟩ => ⟨S1x2048x16, .f32⟩
  | .hbm, ⟨62, _⟩ => ⟨S1x2048x1x16, .f32⟩
  | .hbm, ⟨63, _⟩ => ⟨S1x2048x32x16, .f32⟩
  | .hbm, ⟨64, _⟩ => ⟨S1x2048x32x16, .f32⟩
  | .hbm, ⟨65, _⟩ => ⟨S1x2048x16x64, .f32⟩
  | .hbm, ⟨66, _⟩ => ⟨S1x2048x1024, .f32⟩
  | .hbm, ⟨67, _⟩ => ⟨S1x2048x1024, .f32⟩
  | .hbm, ⟨68, _⟩ => ⟨S1x1x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call1_cst : Ref sig .tc := ⟨.hbm, 43, rfl⟩
abbrev main_call1_v0 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst : Ref sig .tc := ⟨.hbm, 51, rfl⟩
abbrev main_v17 : Ref sig .tc := ⟨.hbm, 52, rfl⟩
abbrev main_cst_0 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩

abbrev nD : Nat := 1
abbrev τ : Topo := Topo.v7x

variable {F : FTy → Type} [FloatOps F]
-- ==== Proof.Frames.lean ====
/- The frame claims of the reference: its run (generated) ends with every argument as launched, and a program
   of host operations only has no semaphore, so every counter ends at zero. -/
module

public import proofs.«01_k».proof.Defs
public import proofs.«01_k».proof.Proof.Gen.ReferenceIdeal.Run
public import proofs.«01_k».proof.Proof.Gen.Pre_finite
public import Idealize.ShloMosaic.Adequacy
public import Idealize.ShloMosaic.Lib.Claim

@[expose] public section

noncomputable section

namespace Cert.Proof

open Idealize.ShloMosaic Idealize.SL.Sem

/-- The reference ends with its arguments unchanged and every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition of the value claim, which the frame does not need. -/
theorem frame_reference_finite : Cert.quiescent_ReferenceIdeal_pre_finite := fun m ρ _ =>
  frame_reference m ρ trivial

end Cert.Proof

end
-- ==== Proof.Host.lean ====
/- What the host operations leave in the arrays the two kernels read, at an index, over the extended reals. -/
module

public import proofs.«01_k».proof.Proof.Gen.KernelIdeal.Frame
public import Idealize.ShloMosaic.Lib.Claim
public import Idealize.ShloMosaic.Lib.Pointwise

@[expose] public section

set_option maxRecDepth 16384

noncomputable section

namespace Cert.Proof.Host

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The identity of the heads, as the program builds it. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- The block diagonal of sixteen copies of a square matrix, as the program builds it. -/
def diag (w : FVec Ideal S64x64 .f32) : FVec Ideal S1024x1024 .f32 :=
  shapeCast S1024x1024 (mulf
    (broadcastInDim S16x64x16x64 ![0, 1, 2, 3] bcast_S16x1x16x1_S16x64x16x64_0_1_2_3 (broadcastInDim S16x1x16x1 ![0, 2] bcast_S16x16_S16x1x16x1_0_2 eye))
    (broadcastInDim S16x64x16x64 ![0, 1, 2, 3] bcast_S1x64x1x64_S16x64x16x64_0_1_2_3 (broadcastInDim S1x64x1x64 ![1, 3] bcast_S64x64_S1x64x1x64_1_3 w)))
    shapeCasts_S16x64x16x64_S1024x1024

/-- The block diagonal of sixteen copies of a column, as the program builds it. -/
def diagCol (w : FVec Ideal S64x1 .f32) : FVec Ideal S1024x16 .f32 :=
  shapeCast S1024x16 (mulf
    (broadcastInDim S16x64x16x1 ![0, 1, 2, 3] bcast_S16x1x16x1_S16x64x16x1_0_1_2_3 (broadcastInDim S16x1x16x1 ![0, 2] bcast_S16x16_S16x1x16x1_0_2 eye))
    (broadcastInDim S16x64x16x1 ![0, 1, 2, 3] bcast_S1x64x1x1_S16x64x16x1_0_1_2_3 (broadcastInDim S1x64x1x1 ![1, 3] bcast_S64x1_S1x64x1x1_1_3 w)))
    shapeCasts_S16x64x16x1_S1024x16

/-- The identity is one on the diagonal and zero elsewhere. -/
theorem eye_at (a b : Fin 16) : eye (ix2 a b) = if a = b then 1 else 0 := by
  pointwise [eye]
  have h : ∀ a b : Fin 16, IntOp.cmpi CmpIPredicate.eq (IntOp.addi (BitVec.ofNat 32 a) 0#32) (BitVec.ofNat 32 b)
      = if a = b then 1#1 else 0#1 := by decide +kernel
  rw [h a b]
  by_cases e : a = b
  · rw [if_pos e, if_pos e]
    show (((1#1 : BitVec 1).toNat : ℝ) : EReal) = 1
    simp
  · rw [if_neg e, if_neg e]
    show (((0#1 : BitVec 1).toNat : ℝ) : EReal) = 0
    simp

/-- The block diagonal at an index. -/
theorem diag_at (w : FVec Ideal S64x64 .f32) (a b : Fin 1024) :
    diag w (ix2 a b) = eye (ix2 ⟨a / 64, by omega⟩ ⟨b / 64, by omega⟩) * w (ix2 ⟨a % 64, by omega⟩ ⟨b % 64, by omega⟩) := by
  pointwise [diag]

/-- The block-diagonal column at an index. -/
theorem diagCol_at (w : FVec Ideal S64x1 .f32) (a : Fin 1024) (b : Fin 16) :
    diagCol w (ix2 a b) = eye (ix2 ⟨a / 64, by omega⟩ b) * w (ix2 ⟨a % 64, by omega⟩ 0) := by
  pointwise [diagCol]

/-- The input as rows. -/
theorem v0_eq (c : Dev nD) : W1 m ρ c (Proc.devRef .tc main_v0)
    = (shapeCast S2048x1024 (m ((c : Thread nD τ).loc main_arg0) : FVec Ideal S1x2048x1024 .f32) shapeCasts_S1x2048x1024_S2048x1024 : FVec Ideal S2048x1024 .f32) := by
  show StableHlo.after hostOps0 (W0 m ρ c) _ = _
  entry_read
  rfl

/-- The heads' identity. -/
theorem v6_eq (c : Dev nD) : W1 m ρ c (Proc.devRef .tc main_v6) = eye := by
  show StableHlo.after hostOps0 (W0 m ρ c) _ = _
  entry_read
  rfl

/-- The mask's table. -/
theorem cst_eq (c : Dev nD) : W1 m ρ c (Proc.devRef .tc main_cst)
    = (fun i => FloatOps.ofBits .f32 (lit0 (S8x256x69.rowMajor i)) : FVec Ideal S8x256x69 .f32) := by
  show StableHlo.after hostOps0 (W0 m ρ c) _ = _
  entry_read
  rfl

/-- The heads' spread table. -/
theorem cst0_eq (c : Dev nD) : W1 m ρ c (Proc.devRef .tc main_cst_0)
    = (fun i => FloatOps.ofBits .f32 (lit1 (S16x1024.rowMajor i)) : FVec Ideal S16x1024 .f32) := by
  show StableHlo.after hostOps0 (W0 m ρ c) _ = _
  entry_read
  rfl

/-- The first block diagonal. -/
theorem v7_eq (c : Dev nD) : W2 m ρ c (Proc.devRef .tc main_v7) = diag (m ((c : Thread nD τ).loc main_arg2) : FVec Ideal S64x64 .f32) := by
  have h6 := v6_eq m ρ c
  have ha := W1_args m ρ c main_arg2 (by decide)
  revert h6 ha
  show W1 m ρ c _ = _ → W1 m ρ c _ = _ → StableHlo.after hostOps0_1 (W1 m ρ c) _ = _
  generalize W1 m ρ c = U
  intro h6 ha
  entry_read
  rw [h6, ha]
  rfl

/-- The second block diagonal. -/
theorem v8_eq (c : Dev nD) : W3 m ρ c (Proc.devRef .tc main_v8) = diag (m ((c : Thread nD τ).loc main_arg3) : FVec Ideal S64x64 .f32) := by
  have h6 := (W2_of m ρ c main_v6 (by decide)).trans (v6_eq m ρ c)
  have ha := W2_args m ρ c main_arg3 (by decide)
  revert h6 ha
  show W2 m ρ c _ = _ → W2 m ρ c _ = _ → StableHlo.after hostOps0_2 (W2 m ρ c) _ = _
  generalize W2 m ρ c = U
  intro h6 ha
  entry_read
  rw [h6, ha]
  rfl

/-- The two block diagonals side by side. -/
theorem v10_eq (c : Dev nD) : W4 m ρ c (Proc.devRef .tc main_v10)
    = (truncf .bf16 (concatenate S1024x2048 1 [⟨S1024x1024, diag (m ((c : Thread nD τ).loc main_arg2) : FVec Ideal S64x64 .f32)⟩,
        ⟨S1024x1024, diag (m ((c : Thread nD τ).loc main_arg3) : FVec Ideal S64x64 .f32)⟩]
        concatenates_S1024x1024_S1024x1024_S1024x2048_d1) bitsLt_bf16_f32 : FVec Ideal S1024x2048 .bf16) := by
  have h7 := (W3_of m ρ c main_v7 (by decide)).trans (v7_eq m ρ c)
  have h8 := v8_eq m ρ c
  revert h7 h8
  show W3 m ρ c _ = _ → W3 m ρ c _ = _ → StableHlo.after hostOps0_3 (W3 m ρ c) _ = _
  generalize W3 m ρ c = U
  intro h7 h8
  entry_read
  rw [h7, h8]

/-- The block-diagonal column. -/
theorem v11_eq (c : Dev nD) : W5 m ρ c (Proc.devRef .tc main_v11) = diagCol (m ((c : Thread nD τ).loc main_arg5) : FVec Ideal S64x1 .f32) := by
  have h6 := (W4_of m ρ c main_v6 (by decide)).trans ((W3_of m ρ c main_v6 (by decide)).trans ((W2_of m ρ c main_v6 (by decide)).trans (v6_eq m ρ c)))
  have ha := W4_args m ρ c main_arg5 (by decide)
  revert h6 ha
  show W4 m ρ c _ = _ → W4 m ρ c _ = _ → StableHlo.after hostOps0_4 (W4 m ρ c) _ = _
  generalize W4 m ρ c = U
  intro h6 ha
  entry_read
  rw [h6, ha]
  rfl

/-- The block-diagonal column, as the second kernel reads it. -/
theorem v12_eq (c : Dev nD) : W6 m ρ c (Proc.devRef .tc main_v12)
    = (truncf .bf16 (diagCol (m ((c : Thread nD τ).loc main_arg5) : FVec Ideal S64x1 .f32)) bitsLt_bf16_f32 : FVec Ideal S1024x16 .bf16) := by
  have h := v11_eq m ρ c
  revert h
  show W5 m ρ c _ = _ → StableHlo.after hostOps0_5 (W5 m ρ c) _ = _
  generalize W5 m ρ c = U
  intro h
  entry_read
  rw [h]

/-- The first layer's bias repeated for every head. -/
theorem v16_eq (c : Dev nD) : W6 m ρ c (Proc.devRef .tc main_v16)
    = (shapeCast S1x1024 (shapeCast S1024 (broadcastInDim S16x64 ![0, 1] bcast_S1x64_S16x64_0_1
        (shapeCast S1x64 (m ((c : Thread nD τ).loc main_arg4) : FVec Ideal S64 .f32) shapeCasts_S64_S1x64)) shapeCasts_S16x64_S1024)
        shapeCasts_S1024_S1x1024 : FVec Ideal S1x1024 .f32) := by
  have h := W5_args m ρ c main_arg4 (by decide)
  revert h
  show W5 m ρ c _ = _ → StableHlo.after hostOps0_5 (W5 m ρ c) _ = _
  generalize W5 m ρ c = U
  intro h
  entry_read
  rw [h]
  rfl

/-- The output's bias plus zero times the second layer's bias. -/
theorem v21_eq (c : Dev nD) : W6 m ρ c (Proc.devRef .tc main_v21)
    = (shapeCast S1x1024 (addf (m ((c : Thread nD τ).loc main_arg8) : FVec Ideal S1024 .f32) (broadcastInDim S1024 ![] bcast_S_S1024
        (mulf (shapeCast S_ (m ((c : Thread nD τ).loc main_arg6) : FVec Ideal S1 .f32) shapeCasts_S1_S_) (constant S_ .f32 0x00000000#32))))
        shapeCasts_S1024_S1x1024 : FVec Ideal S1x1024 .f32) := by
  have h := W5_args m ρ c main_arg8 (by decide)
  have h' := W5_args m ρ c main_arg6 (by decide)
  revert h h'
  show W5 m ρ c _ = _ → W5 m ρ c _ = _ → StableHlo.after hostOps0_5 (W5 m ρ c) _ = _
  generalize W5 m ρ c = U
  intro h h'
  entry_read
  rw [h, h']
  rfl

/-- The heads' spread table, as the second kernel reads it. -/
theorem v22_eq (c : Dev nD) : W6 m ρ c (Proc.devRef .tc main_v22)
    = (truncf .bf16 (fun i => FloatOps.ofBits .f32 (lit1 (S16x1024.rowMajor i)) : FVec Ideal S16x1024 .f32) bitsLt_bf16_f32 : FVec Ideal S16x1024 .bf16) := by
  have h := (W5_of m ρ c main_cst_0 (by decide)).trans ((W4_of m ρ c main_cst_0 (by decide)).trans ((W3_of m ρ c main_cst_0 (by decide)).trans
    ((W2_of m ρ c main_cst_0 (by decide)).trans (cst0_eq m ρ c))))
  revert h
  show W5 m ρ c _ = _ → StableHlo.after hostOps0_5 (W5 m ρ c) _ = _
  generalize W5 m ρ c = U
  intro h
  entry_read
  rw [h]

/-- The first kernel's input rows. -/
theorem v0_in (c : Dev nD) : W6 m ρ c (Proc.devRef .tc main_v0)
    = (shapeCast S2048x1024 (m ((c : Thread nD τ).loc main_arg0) : FVec Ideal S1x2048x1024 .f32) shapeCasts_S1x2048x1024_S2048x1024 : FVec Ideal S2048x1024 .f32) :=
  (W6_of m ρ c main_v0 (by decide)).trans ((W5_of m ρ c main_v0 (by decide)).trans ((W4_of m ρ c main_v0 (by decide)).trans
    ((W3_of m ρ c main_v0 (by decide)).trans ((W2_of m ρ c main_v0 (by decide)).trans (v0_eq m ρ c)))))

/-- The mask, as the second kernel finds it. -/
theorem cst_in (c : Dev nD) : W6 m ρ c (Proc.devRef .tc main_cst)
    = (fun i => FloatOps.ofBits .f32 (lit0 (S8x256x69.rowMajor i)) : FVec Ideal S8x256x69 .f32) :=
  (W6_of m ρ c main_cst (by decide)).trans ((W5_of m ρ c main_cst (by decide)).trans ((W4_of m ρ c main_cst (by decide)).trans
    ((W3_of m ρ c main_cst (by decide)).trans ((W2_of m ρ c main_cst (by decide)).trans (cst_eq m ρ c)))))

/-- The two block diagonals, as the first kernel finds them. -/
theorem v10_in (c : Dev nD) : W6 m ρ c (Proc.devRef .tc main_v10)
    = (truncf .bf16 (concatenate S1024x2048 1 [⟨S1024x1024, diag (m ((c : Thread nD τ).loc main_arg2) : FVec Ideal S64x64 .f32)⟩,
        ⟨S1024x1024, diag (m ((c : Thread nD τ).loc main_arg3) : FVec Ideal S64x64 .f32)⟩]
        concatenates_S1024x1024_S1024x1024_S1024x2048_d1) bitsLt_bf16_f32 : FVec Ideal S1024x2048 .bf16) :=
  (W6_of m ρ c main_v10 (by decide)).trans ((W5_of m ρ c main_v10 (by decide)).trans (v10_eq m ρ c))

end Cert.Proof.Host
-- ==== Proof.Proj.lean ====
/- The first kernel's three result arrays as functions of the four arrays it reads, over the extended reals. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Proj

open Idealize.ShloMosaic Idealize.ShloMosaic.TcCoe Idealize.SL.Sem Cert.KernelIdeal Cert.KernelIdeal.Gen
open Idealize.ShloMosaic.Pipeline (Dat)

/-- The projected rows. -/
def projE (x : FVec Ideal S2048x1024 .f32) (w : FVec Ideal S1024x1024 .f32) (i : Fin 2048) (d : Fin 1024) : EReal :=
  ∑ k : Fin 1024, x (ix2 i k) * w (ix2 k d)

/-- The projected rows as an array. -/
def projA (x : FVec Ideal S2048x1024 .f32) (w : FVec Ideal S1024x1024 .f32) : FVec Ideal S2048x1024 .bf16 :=
  fun j => projE x w (j 0) (j 1)

/-- The centre's half of the first layer, bias included. -/
def selfE (x : FVec Ideal S2048x1024 .f32) (w : FVec Ideal S1024x1024 .f32) (b : FVec Ideal S1024x2048 .bf16) (b1 : FVec Ideal S1x1024 .f32)
    (i : Fin 2048) (d : Fin 1024) : EReal :=
  (∑ k : Fin 1024, projE x w i k * b (ix2 k ⟨d, by omega⟩)) + b1 (ix2 0 d)

/-- The centre's half as an array. -/
def selfA (x : FVec Ideal S2048x1024 .f32) (w : FVec Ideal S1024x1024 .f32) (b : FVec Ideal S1024x2048 .bf16) (b1 : FVec Ideal S1x1024 .f32) :
    FVec Ideal S2048x1024 .bf16 :=
  fun j => selfE x w b b1 (j 0) (j 1)

/-- The neighbour's half of the first layer. -/
def nbrE (x : FVec Ideal S2048x1024 .f32) (w : FVec Ideal S1024x1024 .f32) (b : FVec Ideal S1024x2048 .bf16)
    (i : Fin 2048) (d : Fin 1024) : EReal :=
  ∑ k : Fin 1024, projE x w i k * b (ix2 k ⟨1024 + d, by omega⟩)

/-- The neighbour's half as an array. -/
def nbrA (x : FVec Ideal S2048x1024 .f32) (w : FVec Ideal S1024x1024 .f32) (b : FVec Ideal S1024x2048 .bf16) :
    FVec Ideal S2048x1024 .bf16 :=
  fun j => nbrE x w b (j 0) (j 1)

/-- The first payload at an index. -/
theorem pay2_at (x : Vec Ideal S256x1024 .f32) (w : Vec Ideal S1024x1024 .f32) (r : Fin 256) (d : Fin 1024) :
    k0_pay2 (F := Ideal) x w (ix2 r d) = ∑ k : Fin 1024, x (ix2 r k) * w (ix2 k d) := by
  pointwise [k0_pay2, k0_pay1]

/-- The second payload at an index. -/
theorem pay4_at (x : Vec Ideal S256x1024 .f32) (w : Vec Ideal S1024x1024 .f32) (b : Vec Ideal S1024x2048 .bf16) (b1 : Vec Ideal S1x1024 .f32)
    (r : Fin 256) (d : Fin 1024) :
    k0_pay4 (F := Ideal) x w b b1 (ix2 r d)
      = (∑ k : Fin 1024, (∑ e : Fin 1024, x (ix2 r e) * w (ix2 e k)) * b (ix2 k ⟨d, by omega⟩)) + b1 (ix2 0 d) := by
  pointwise [k0_pay4, k0_pay3, k0_pay1]

/-- The third payload at an index. -/
theorem pay5_at (x : Vec Ideal S256x1024 .f32) (w : Vec Ideal S1024x1024 .f32) (b : Vec Ideal S1024x2048 .bf16)
    (r : Fin 256) (d : Fin 1024) :
    k0_pay5 (F := Ideal) x w b (ix2 r d)
      = ∑ k : Fin 1024, (∑ e : Fin 1024, x (ix2 r e) * w (ix2 e k)) * b (ix2 k ⟨1024 + d, by omega⟩) := by
  pointwise [k0_pay5, k0_pay3, k0_pay1]

/-- The windows' block indices: the input rows and the three results move with the point, the rest stays. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

variable (V : (c : Dev nD) → (b : Ref sig .tc) → Buf (Elt Ideal) ((c : Thread nD τ).loc b))

/-- The projected rows' array after the first kernel. -/
theorem final4 (c : Dev nD) : (dat0 V c).arrAt 4 cfg0.N = projA (V c main_v0) (V c main_arg1) := by
  refine (dat0 V c).arrAt_eq_of_covers 4 _ (by decide +kernel) fun t _ y => ?_
  blk_simp
  rw [after0_4]
  frame_out
  idx_vars y
  rw [pay2_at]
  blk_point [iblk0, projA, projE, idx t]

/-- The centre's half after the first kernel. -/
theorem final5 (c : Dev nD) : (dat0 V c).arrAt 5 cfg0.N = selfA (V c main_v0) (V c main_arg1) (V c main_v10) (V c main_v16) := by
  refine (dat0 V c).arrAt_eq_of_covers 5 _ (by decide +kernel) fun t _ y => ?_
  blk_simp
  rw [after0_5]
  frame_out
  idx_vars y
  rw [pay4_at]
  blk_point [iblk0, selfA, selfE, projE, idx t]
  refine congrArg₂ (· * ·) (Finset.sum_congr rfl fun e _ => ?_) rfl
  blk_point [idx t]

/-- The neighbour's half after the first kernel. -/
theorem final6 (c : Dev nD) : (dat0 V c).arrAt 6 cfg0.N = nbrA (V c main_v0) (V c main_arg1) (V c main_v10) := by
  refine (dat0 V c).arrAt_eq_of_covers 6 _ (by decide +kernel) fun t _ y => ?_
  blk_simp
  rw [after0_6]
  frame_out
  idx_vars y
  rw [pay5_at]
  blk_point [iblk0, nbrA, nbrE, projE, idx t]
  refine congrArg₂ (· * ·) (Finset.sum_congr rfl fun e _ => ?_) rfl
  blk_point [idx t]

end Cert.Proof.Proj
-- ==== Proof.Entry.lean ====
/- What the second kernel finds in the arrays it reads, over the extended reals. -/
module

public import proofs.«01_k».proof.Proof.Host
public import proofs.«01_k».proof.Proof.Proj

@[expose] public section

set_option maxRecDepth 16384

noncomputable section

namespace Cert.Proof.Entry

open Idealize.ShloMosaic Idealize.ShloMosaic.TcCoe Idealize.SL.Sem Cert.KernelIdeal Cert.KernelIdeal.Gen Cert.Proof.Host Cert.Proof.Proj

/-- An array of rows with 34 rows of zeros before it and 222 after it, as the program builds it. -/
def padA (a : FVec Ideal S2048x1024 .bf16) : FVec Ideal S2304x1024 .bf16 :=
  pad S2304x1024 ![34, 0] ![222, 0] ![0, 0] a (sitofp .bf16 (constantI S_ 32 0#32) : FVec Ideal S_ .bf16) pads_S2048x1024_S2304x1024_342220_000 h_S_

/-- A row inside the padding is a row of the array. -/
theorem padA_at (a : FVec Ideal S2048x1024 .bf16) (j : Fin 2304) (k : Fin 1024) (h : 34 ≤ (j : ℕ)) (h' : (j : ℕ) < 2082) :
    padA a (ix2 j k) = a (ix2 ⟨j - 34, by omega⟩ k) := by
  pointwise [padA]
  rw [dif_pos (by omega)]

/-- A row of the padding is zero. -/
theorem padA_out (a : FVec Ideal S2048x1024 .bf16) (j : Fin 2304) (k : Fin 1024) (h : (j : ℕ) < 34 ∨ 2082 ≤ (j : ℕ)) :
    padA a (ix2 j k) = 0 := by
  pointwise [padA]
  rw [dif_neg (by omega)]
  show (((0#32 : BitVec 32).toInt : ℝ) : EReal) = 0
  simp

variable (m : (ℓ : Loc nD τ sig) → Buf (Elt Ideal) ℓ) (ρ : Dev nD → PrngReg)

/-- A buffer that neither the first kernel nor the host operations after it write. -/
theorem keep (c : Dev nD) (r : Ref sig .tc) (h7 : ∀ w : Fin cfg0.W, Pipeline.arrRef spec0 w = r → (cfg0.win w).isOut = false)
    (h8 : r ∉ hostOps1_W) (h9 : r ∉ hostOps1_1_W) (h10 : r ∉ hostOps1_2_W) (h11 : r ∉ hostOps1_3_W) (h12 : r ∉ hostOps1_4_W) :
    W12 m ρ c (Proc.devRef .tc r) = W6 m ρ c (Proc.devRef .tc r) :=
  (W12_of m ρ c r h12).trans ((W11_of m ρ c r h11).trans ((W10_of m ρ c r h10).trans ((W9_of m ρ c r h9).trans ((W8_of m ρ c r h8).trans
    (W7_of m ρ c r h7)))))

/-- A buffer that the host operations between the kernels do not write. -/
theorem keep7 (c : Dev nD) (r : Ref sig .tc)
    (h8 : r ∉ hostOps1_W) (h9 : r ∉ hostOps1_1_W) (h10 : r ∉ hostOps1_2_W) (h11 : r ∉ hostOps1_3_W) (h12 : r ∉ hostOps1_4_W) :
    W12 m ρ c (Proc.devRef .tc r) = W7 m ρ c (Proc.devRef .tc r) :=
  (W12_of m ρ c r h12).trans ((W11_of m ρ c r h11).trans ((W10_of m ρ c r h10).trans ((W9_of m ρ c r h9).trans (W8_of m ρ c r h8))))

/-- The input rows are as the first call found them. -/
theorem in_v0 (c : Dev nD) : V12 m ρ c main_v0 = V6 m ρ c main_v0 :=
  keep m ρ c main_v0 (by decide) (by decide) (by decide) (by decide) (by decide) (by decide)

/-- The mask is as the first call found it. -/
theorem in_cst (c : Dev nD) : V12 m ρ c main_cst = V6 m ρ c main_cst :=
  keep m ρ c main_cst (by decide) (by decide) (by decide) (by decide) (by decide) (by decide)

/-- The second layer's columns are as the first call found them. -/
theorem in_v12 (c : Dev nD) : V12 m ρ c main_v12 = V6 m ρ c main_v12 :=
  keep m ρ c main_v12 (by decide) (by decide) (by decide) (by decide) (by decide) (by decide)

/-- The heads' spread is as the first call found it. -/
theorem in_v22 (c : Dev nD) : V12 m ρ c main_v22 = V6 m ρ c main_v22 :=
  keep m ρ c main_v22 (by decide) (by decide) (by decide) (by decide) (by decide) (by decide)

/-- The output's bias row is as the first call found it. -/
theorem in_v21 (c : Dev nD) : V12 m ρ c main_v21 = V6 m ρ c main_v21 :=
  keep m ρ c main_v21 (by decide) (by decide) (by decide) (by decide) (by decide) (by decide)

/-- The centre's half of the first layer. -/
theorem in_self (c : Dev nD) : V12 m ρ c main_v23_1
    = selfA (V6 m ρ c main_v0) (V6 m ρ c main_arg1) (V6 m ρ c main_v10) (V6 m ρ c main_v16) :=
  (keep7 m ρ c main_v23_1 (by decide) (by decide) (by decide) (by decide) (by decide)).trans ((W7_arr m ρ c 5).trans (final5 (V6 m ρ) c))

/-- The projected rows in their padding. -/
theorem in_proj (c : Dev nD) : V12 m ρ c main_v24 = padA (projA (V6 m ρ c main_v0) (V6 m ρ c main_arg1)) := by
  have h : W8 m ρ c (Proc.devRef .tc main_v23_0) = projA (V6 m ρ c main_v0) (V6 m ρ c main_arg1) :=
    (W8_of m ρ c main_v23_0 (by decide)).trans ((W7_arr m ρ c 4).trans (final4 (V6 m ρ) c))
  have hz : W8 m ρ c (Proc.devRef .tc main_c_2) = (constantI S_ 32 0#32 : IVec S_ 32) := by
    show StableHlo.after hostOps1 (W7 m ρ c) _ = _
    entry_read
    rfl
  refine (W12_of m ρ c main_v24 (by decide)).trans ((W11_of m ρ c main_v24 (by decide)).trans ((W10_of m ρ c main_v24 (by decide)).trans ?_))
  revert h hz
  generalize projA (V6 m ρ c main_v0) (V6 m ρ c main_arg1) = A
  show W8 m ρ c _ = _ → W8 m ρ c _ = _ → StableHlo.after hostOps1_1 (W8 m ρ c) _ = _
  generalize W8 m ρ c = U
  intro h hz
  entry_read
  rw [h, hz]
  rfl

/-- The neighbour's half of the first layer in its padding. -/
theorem in_nbr (c : Dev nD) : V12 m ρ c main_v25 = padA (nbrA (V6 m ρ c main_v0) (V6 m ρ c main_arg1) (V6 m ρ c main_v10)) := by
  have h : W10 m ρ c (Proc.devRef .tc main_v23_2) = nbrA (V6 m ρ c main_v0) (V6 m ρ c main_arg1) (V6 m ρ c main_v10) :=
    (W10_of m ρ c main_v23_2 (by decide)).trans ((W9_of m ρ c main_v23_2 (by decide)).trans ((W8_of m ρ c main_v23_2 (by decide)).trans
      ((W7_arr m ρ c 6).trans (final6 (V6 m ρ) c))))
  have hz : W10 m ρ c (Proc.devRef .tc main_c_3) = (constantI S_ 32 0#32 : IVec S_ 32) := by
    show StableHlo.after hostOps1_2 (W9 m ρ c) _ = _
    entry_read
    rfl
  refine (W12_of m ρ c main_v25 (by decide)).trans ?_
  revert h hz
  generalize nbrA (V6 m ρ c main_v0) (V6 m ρ c main_arg1) (V6 m ρ c main_v10) = A
  show W10 m ρ c _ = _ → W10 m ρ c _ = _ → StableHlo.after hostOps1_3 (W10 m ρ c) _ = _
  generalize W10 m ρ c = U
  intro h hz
  entry_read
  rw [h, hz]
  rfl

/-- The output's matrix. -/
theorem in_out (c : Dev nD) : V12 m ρ c main_v26 = (truncf .bf16 (m ((c : Thread nD τ).loc main_arg7) : FVec Ideal S1024x1024 .f32) bitsLt_bf16_f32 : FVec Ideal S1024x1024 .bf16) := by
  have h := W11_args m ρ c main_arg7 (by decide)
  revert h
  show W11 m ρ c _ = _ → StableHlo.after hostOps1_4 (W11 m ρ c) _ = _
  generalize W11 m ρ c = U
  intro h
  entry_read
  rw [h]

end Cert.Proof.Entry
-- ==== Proof.FuseModel.lean ====
/- The second kernel's arithmetic as a recursion over its 69 offsets: the logits stored at an offset, the
   weight of an offset, and the two running sums, in the order the program visits the offsets. -/
module

public import proofs.«01_k».proof.Proof.Gen.KernelIdeal.Frame

@[expose] public section

set_option maxRecDepth 16384

noncomputable section

namespace Cert.Proof.Fuse

open Idealize.ShloMosaic Idealize.SL.Sem Cert.KernelIdeal Cert.KernelIdeal.Gen

variable {F : FTy → Type} [FloatOps F]

/-- The offset's remainder by eight at the `n`-th visit. -/
def rem8 (n : ℕ) : ℕ := (bif Nat.blt n 45 then n / 9 else 5 + (n - 45) / 8) % 8

/-- The offset's multiple of eight at the `n`-th visit. -/
def mul8 (n : ℕ) : ℕ := (bif Nat.blt n 45 then n % 9 else (n - 45) % 8) % 9

/-- The offset the program visits `n`-th. -/
def offs (n : ℕ) : ℕ := (8 * mul8 n + rem8 n) % 69

/-- The remainder is below eight. -/
theorem rem8_lt (n : ℕ) : rem8 n < 8 := Nat.mod_lt _ (by decide)

/-- The multiple is below nine. -/
theorem mul8_lt (n : ℕ) : mul8 n < 9 := Nat.mod_lt _ (by decide)

/-- The offset is below 69. -/
theorem offs_lt (n : ℕ) : offs n < 69 := Nat.mod_lt _ (by decide)

/-- Rows `rem8 n` onwards of the window lie inside it. -/
theorem slicesOuter (n : ℕ) : S512x1024.Slices ![rem8 n, 0] S320x1024 := by
  refine ⟨rfl, fun a => ?_⟩
  have h := rem8_lt n
  fin_cases a
  · show rem8 n + 320 ≤ 512
    omega
  · show 0 + 1024 ≤ 1024
    omega

/-- Rows `8 * mul8 n` onwards of that part lie inside it. -/
theorem slicesInner (n : ℕ) : S320x1024.Slices ![8 * mul8 n, 0] S256x1024 := by
  refine ⟨rfl, fun a => ?_⟩
  have h := mul8_lt n
  fin_cases a
  · show 8 * mul8 n + 256 ≤ 320
    omega
  · show 0 + 1024 ≤ 1024
    omega

/-- Column `offs n` of the weights lies inside them. -/
theorem slicesCol (n : ℕ) : S256x69.Slices ![0, offs n] S256x1 := by
  refine ⟨rfl, fun a => ?_⟩
  have h := offs_lt n
  fin_cases a
  · show 0 + 256 ≤ 256
    omega
  · show offs n + 1 ≤ 69
    omega

/-- The scratch row of offset `offs n` lies inside the scratch. -/
theorem inbRow (n : ℕ) : ∀ a, (![offs n, 0, 0] : Fin 3 → ℕ) a + S1x256x16.size a ≤ S69x256x16.size a := by
  intro a
  have h := offs_lt n
  fin_cases a
  · show offs n + 1 ≤ 69
    omega
  · show 0 + 256 ≤ 256
    omega
  · show 0 + 16 ≤ 16
    omega

/-- The scratch row of the `n`-th visit. -/
def row (n : ℕ) : Rect S69x256x16 := Rect.unit ![offs n, 0, 0] S1x256x16.size (inbRow n)

/-- The 256 rows of a 512-row window starting at the offset of the `n`-th visit, cut in two steps. -/
def cut (w : FVec F S512x1024 .bf16) (n : ℕ) : FVec F S256x1024 .bf16 :=
  extractStridedSlice S256x1024 ![8 * mul8 n, 0] (extractStridedSlice S320x1024 ![rem8 n, 0] w (slicesOuter n)) (slicesInner n)

/-- The block of logits stored at the `n`-th visit. -/
def logit (q : FVec F S256x1024 .bf16) (nw : FVec F S512x1024 .bf16) (w2 : Vec F S1024x16 .bf16) (n : ℕ) :
    Vec F S1x256x16 .bf16 :=
  shapeCast S1x256x16 (truncf .bf16 (matmul dot_S256x1024_S1024x16_S256x16_1_0_0_1_n_n none
    (maximumf (addf q (cut nw n)) (broadcast S256x1024 (Scalar.ofBits .bf16 0x0000#16)))
    (shapeCast S1024x16 w2 shapeCasts_S1024x16_S1024x16) (constant S256x16 .f32 0x00000000#32)) bitsLt_bf16_f32)
    shapeCasts_S256x16_S1x256x16

/-- The scratch pieces after the first `n` visits, the last one first. -/
def pieces (z : ℕ → Vec F S1x256x16 .bf16) : ℕ → List (View.Piece (Elt F) S69x256x16 .bf16)
  | 0 => []
  | n + 1 => ⟨row n, z n⟩ :: pieces z n

/-- The weights of the `n`-th visit: the exponential of the logits loaded less the centre's, times the mask's column. -/
def wgt (m : FVec F S256x69 .f32) (zc : FVec F S256x16 .f32) (z : ℕ → Vec F S1x256x16 .bf16) (n : ℕ) : FVec F S256x16 .f32 :=
  mulf (exp (subf (extf .f32 (shapeCast S256x16 (z n) shapeCasts_S1x256x16_S256x16) bitsLt_bf16_f32) zc))
    (broadcastTo S256x16 (extractStridedSlice S256x1 ![0, offs n] m (slicesCol n)) broadcasts_S256x1_S256x16)

/-- The weighted rows of the `n`-th visit, each head's weight spread over the head's columns. -/
def term (e : ℕ → FVec F S256x16 .f32) (hw : FVec F S512x1024 .bf16) (rep : Vec F S16x1024 .bf16) (n : ℕ) :
    FVec F S256x1024 .f32 :=
  mulf (matmul dot_S256x16_S16x1024_S256x1024_1_0_0_1_n_n none (truncf .bf16 (e n) bitsLt_bf16_f32)
    (shapeCast S16x1024 rep shapeCasts_S16x1024_S16x1024) (constant S256x1024 .f32 0x00000000#32))
    (extf .f32 (cut hw n) bitsLt_bf16_f32)

/-- The running weighted sum after `n` visits. -/
def acc (e : ℕ → FVec F S256x16 .f32) (hw : FVec F S512x1024 .bf16) (rep : Vec F S16x1024 .bf16) : ℕ → FVec F S256x1024 .f32
  | 0 => broadcast S256x1024 (Scalar.ofBits .f32 0x00000000#32)
  | n + 1 => addf (acc e hw rep n) (term e hw rep n)

/-- The running sum of weights after `n` visits. -/
def mass (e : ℕ → FVec F S256x16 .f32) : ℕ → FVec F S256x16 .f32
  | 0 => broadcast S256x16 (Scalar.ofBits .f32 0x00000000#32)
  | n + 1 => addf (mass e n) (e n)

/-- The logits stored from the loaded blocks. -/
def logits (q : Vec F S256x1024 .bf16) (n0 n1 : Vec F S256x1024 .bf16) (w2 : Vec F S1024x16 .bf16) : ℕ → Vec F S1x256x16 .bf16 :=
  logit (k1_pay2 q) (k1_pay4 n0 n1) w2

/-- The weights from the loads of the logits (`zr n` the load at visit `n`, `zc` the load at the centre). -/
def wgts (m : Vec F S1x256x69 .f32) (zc : Vec F S1x256x16 .bf16) (zr : ℕ → Vec F S1x256x16 .bf16) : ℕ → FVec F S256x16 .f32 :=
  wgt (k1_pay3 m) (k1_pay107 zc) zr

/-- The block written: the weighted sum over the sum of weights, through the output projection, plus bias and input. -/
def outBlock (a : FVec F S256x1024 .f32) (l : FVec F S256x16 .f32) (rep : Vec F S16x1024 .bf16) (wo : Vec F S1024x1024 .bf16)
    (bo : Vec F S1x1024 .f32) (x : Vec F S256x1024 .f32) : FVec F S256x1024 .f32 :=
  addf (addf (matmul dot_S256x1024_S1024x1024_S256x1024_1_0_0_1_n_n none
      (truncf .bf16 (divf a (matmul dot_S256x16_S16x1024_S256x1024_1_0_0_1_n_n none l
        (shapeCast S16x1024 rep shapeCasts_S16x1024_S16x1024) (constant S256x1024 .f32 0x00000000#32))) bitsLt_bf16_f32)
      (shapeCast S1024x1024 wo shapeCasts_S1024x1024_S1024x1024) (constant S256x1024 .f32 0x00000000#32))
    (broadcastTo S256x1024 (shapeCast S1x1024 bo shapeCasts_S1x1024_S1x1024) broadcasts_S1x1024_S256x1024))
    (shapeCast S256x1024 x shapeCasts_S256x1024_S256x1024)

end Cert.Proof.Fuse
-- ==== Proof.FuseRun.lean ====
/- What the second kernel's run leaves in its scratch and in its output block, as the recursion of `FuseModel`. -/
module

public import proofs.«01_k».proof.Proof.FuseModel

@[expose] public section

set_option maxRecDepth 65536

noncomputable section

namespace Cert.Proof.Fuse

open Idealize.ShloMosaic Idealize.SL.Sem Cert.KernelIdeal Cert.KernelIdeal.Gen

variable {F : FTy → Type} [FloatOps F]

/-- A whole block as the body loads it. -/
abbrev rd (a : Memref sig .tc .vmem S256x1024 .bf16) (h : a.IsWhole) (x : Vec F S256x1024 .bf16) : Vec F S256x1024 .bf16 :=
  View.readAt (Elt F) a.view (Rect.unit ![0, 0] S256x1024.size inb_S256x1024_S256x1024_0_0).toLoadRect (h.unread x)

/-- The logits' pieces in the scratch are those of the recursion. -/
theorem scratch_eq (c : Dev nD) (arg1 : Memref sig .tc .vmem S256x1024 .bf16) (harg1 : arg1.IsWhole)
    (arg3 : Memref sig .tc .vmem S256x1024 .bf16) (harg3 : arg3.IsWhole) (arg4 : Memref sig .tc .vmem S256x1024 .bf16) (harg4 : arg4.IsWhole)
    (arg9 : Memref sig .tc .vmem S1024x16 .bf16) (harg9 : arg9.IsWhole)
    (x0 x2 x3 : Vec F S256x1024 .bf16) (x8 : Vec F S1024x16 .bf16) :
    kernelRun1_A.sl.HS0_69 c arg1 harg1 arg3 harg3 arg4 harg4 arg9 harg9 x0 x2 x3 x8
      = pieces (logits (rd arg1 harg1 x0) (rd arg3 harg3 x2) (rd arg4 harg4 x3)
          (View.readAt (Elt F) arg9.view (Rect.unit ![0, 0] S1024x16.size inb_S1024x16_S1024x16_0_0).toLoadRect (harg9.unread x8))) 69 := by
  sl_kernel_rfl

/-- The load of a scratch row after all the rows are stored. -/
abbrev rdRow (arg13 : Memref sig .tc .vmem S69x256x16 .bf16) (z : ℕ → Vec F S1x256x16 .bf16) (n : ℕ) : Vec F S1x256x16 .bf16 :=
  arg13.view.readCov (pieces z 69) (row n).toLoadRect

/-- The one piece the run leaves in its output block. -/
theorem out_pieces_eq (c : Dev nD) (i : grid1.Coords) (arg1 : Memref sig .tc .vmem S256x1024 .bf16) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x256x69 .f32) (harg7 : arg7.IsWhole) (arg8 : Memref sig .tc .vmem S1024x1024 .bf16) (harg8 : arg8.IsWhole) (arg9 : Memref sig .tc .vmem S1024x16 .bf16) (harg9 : arg9.IsWhole) (arg10 : Memref sig .tc .vmem S16x1024 .bf16) (harg10 : arg10.IsWhole) (arg11 : Memref sig .tc .vmem S1x1024 .f32) (harg11 : arg11.IsWhole) (arg12 : Memref sig .tc .vmem S256x1024 .f32) (harg12 : arg12.IsWhole) (arg13 : Memref sig .tc .vmem S69x256x16 .bf16) (harg13 : arg13.IsWhole)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S1x256x69 .f32) (x7 : Vec F S1024x1024 .bf16) (x8 : Vec F S1024x16 .bf16) (x9 : Vec F S16x1024 .bf16) (x10 : Vec F S1x1024 .f32) :
    (kernelRun1_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
      = [⟨Rect.unit ![0, 0] S256x1024.size inb_S256x1024_S256x1024_0_0,
          (fun (z : ℕ → Vec F S1x256x16 .bf16) (rep : Vec F S16x1024 .bf16) =>
            (fun (e : ℕ → FVec F S256x16 .f32) =>
              outBlock (acc e (k1_pay108 (rd arg5 harg5 x4) (rd arg6 harg6 x5)) rep 69) (mass e 69) rep
                (View.readAt (Elt F) arg8.view (Rect.unit ![0, 0] S1024x1024.size inb_S1024x1024_S1024x1024_0_0).toLoadRect (harg8.unread x7))
                (View.readAt (Elt F) arg11.view (Rect.unit ![0, 0] S1x1024.size inb_S1x1024_S1x1024_0_0).toLoadRect (harg11.unread x10))
                (View.readAt (Elt F) arg2.view (Rect.unit ![0, 0] S256x1024.size inb_S256x1024_S256x1024_0_0).toLoadRect (harg2.unread x1)))
            (wgts (View.readAt (Elt F) arg7.view (Rect.unit ![0, 0, 0] S1x256x69.size inb_S1x256x69_S1x256x69_0_0_0).toLoadRect (harg7.unread x6))
              (rdRow arg13 z 22) (rdRow arg13 z)))
          (logits (rd arg1 harg1 x0) (rd arg3 harg3 x2) (rd arg4 harg4 x3)
            (View.readAt (Elt F) arg9.view (Rect.unit ![0, 0] S1024x16.size inb_S1024x16_S1024x16_0_0).toLoadRect (harg9.unread x8)))
          (View.readAt (Elt F) arg10.view (Rect.unit ![0, 0] S16x1024.size inb_S16x1024_S16x1024_0_0).toLoadRect (harg10.unread x9))⟩] := by
  sl_kernel_rfl

end Cert.Proof.Fuse
-- ==== Proof.FuseOut.lean ====
/- The second kernel's output block as the recursion of `FuseModel` over its eleven input blocks. -/
module

public import proofs.«01_k».proof.Proof.FuseRun
public import Idealize.ShloMosaic.Lib.Pipeline.ValueKit

@[expose] public section

set_option maxRecDepth 65536

noncomputable section

namespace Cert.Proof.Fuse

open Idealize.ShloMosaic Idealize.SL.Sem Cert.KernelIdeal Cert.KernelIdeal.Gen

variable {F : FTy → Type} [FloatOps F]

/-- Different visits have different offsets. -/
theorem offs_inj : ∀ a b : Fin 69, offs a = offs b → a = b := by decide +kernel

/-- The centre's offset is visited at place 22. -/
theorem offs_centre : offs 22 = 34 := by decide +kernel

/-- The row stored at visit `n` reads back as stored there once the first `N` visits, `n` among them, are done. -/
theorem readRow (v : View sig .tc .vmem S69x256x16 .bf16) (z : ℕ → Vec F S1x256x16 .bf16) (n : ℕ) :
    ∀ N : ℕ, n < N → N ≤ 69 → v.readCov (pieces z N) (row n).toLoadRect = z n
  | 0, h, _ => absurd h (Nat.not_lt_zero _)
  | N + 1, h, hN => by
    by_cases e : n = N
    · subst e
      exact View.readCov_cons_toLoadRect v (row n) (z n) (pieces z n)
    · have hlt : n < N := by omega
      have hne : offs N ≠ offs n := fun h' => e (congrArg Fin.val (offs_inj ⟨N, by omega⟩ ⟨n, by omega⟩ h')).symm
      have hd : offs N + 1 ≤ offs n ∨ offs n + 1 ≤ offs N := by omega
      show v.readCov (⟨row N, z N⟩ :: pieces z N) (row n).toLoadRect = z n
      rw [View.readCov_cons_of_disjoint v ⟨row N, z N⟩ (pieces z N) (row n).toLoadRect
        (Rect.unit_disjoint (inb := inbRow N) (inb' := inbRow n) 0 hd)]
      exact readRow v z n N hlt (by omega)

/-- The weights depend on the stored logits of the visit and of the centre only. -/
theorem wgts_congr (m : Vec F S1x256x69 .f32) (zc zc' : Vec F S1x256x16 .bf16) (z z' : ℕ → Vec F S1x256x16 .bf16) (n : ℕ)
    (hc : zc = zc') (h : z n = z' n) : wgts m zc z n = wgts m zc' z' n := by
  unfold wgts wgt
  rw [h, hc]

/-- The running weighted sum depends on the weights of the visits done only. -/
theorem acc_congr (e e' : ℕ → FVec F S256x16 .f32) (hw : FVec F S512x1024 .bf16) (rep : Vec F S16x1024 .bf16) :
    ∀ N : ℕ, (∀ n, n < N → e n = e' n) → acc e hw rep N = acc e' hw rep N
  | 0, _ => rfl
  | N + 1, h => by
    unfold acc term
    rw [acc_congr e e' hw rep N fun n hn => h n (by omega), h N (by omega)]

/-- So does the running sum of weights. -/
theorem mass_congr (e e' : ℕ → FVec F S256x16 .f32) :
    ∀ N : ℕ, (∀ n, n < N → e n = e' n) → mass e N = mass e' N
  | 0, _ => rfl
  | N + 1, h => by
    unfold mass
    rw [mass_congr e e' N fun n hn => h n (by omega), h N (by omega)]

/-- The output block over the input blocks. -/
def block (x0 : Vec F S256x1024 .bf16) (x1 : Vec F S256x1024 .f32) (x2 x3 x4 x5 : Vec F S256x1024 .bf16) (x6 : Vec F S1x256x69 .f32)
    (x7 : Vec F S1024x1024 .bf16) (x8 : Vec F S1024x16 .bf16) (x9 : Vec F S16x1024 .bf16) (x10 : Vec F S1x1024 .f32) :
    FVec F S256x1024 .f32 :=
  outBlock (acc (wgts x6 (logits x0 x2 x3 x8 22) (logits x0 x2 x3 x8)) (k1_pay108 x4 x5) x9 69)
    (mass (wgts x6 (logits x0 x2 x3 x8 22) (logits x0 x2 x3 x8)) 69) x9 x7 x10 x1

/-- What the body leaves in its output's buffer is `block` of the input blocks. -/
theorem out_eq (c : Dev nD) (i : grid1.Coords) (arg1 : Memref sig .tc .vmem S256x1024 .bf16) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x256x69 .f32) (harg7 : arg7.IsWhole) (arg8 : Memref sig .tc .vmem S1024x1024 .bf16) (harg8 : arg8.IsWhole) (arg9 : Memref sig .tc .vmem S1024x16 .bf16) (harg9 : arg9.IsWhole) (arg10 : Memref sig .tc .vmem S16x1024 .bf16) (harg10 : arg10.IsWhole) (arg11 : Memref sig .tc .vmem S1x1024 .f32) (harg11 : arg11.IsWhole) (arg12 : Memref sig .tc .vmem S256x1024 .f32) (harg12 : arg12.IsWhole) (arg13 : Memref sig .tc .vmem S69x256x16 .bf16) (harg13 : arg13.IsWhole)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S1x256x69 .f32) (x7 : Vec F S1024x1024 .bf16) (x8 : Vec F S1024x16 .bf16) (x9 : Vec F S16x1024 .bf16) (x10 : Vec F S1x1024 .f32) :
    out1_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = block x0 x1 x2 x3 x4 x5 x6 x7 x8 x9 x10 := by
  unfold out1_A_11
  rw [out_pieces_eq, View.read_writes_junk_eq_canon, View.canon_cons_unit_lit _ _ _ (by decide)]
  simp only [rd, View.readAt_eq_ld, Memref.IsWhole.read_unread]
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide),
    View.ld_unit_lit _ x6 (by decide), View.ld_unit_lit _ x7 (by decide), View.ld_unit_lit _ x8 (by decide),
    View.ld_unit_lit _ x9 (by decide), View.ld_unit_lit _ x10 (by decide)]
  have hz : ∀ n, n < 69 → rdRow arg13 (logits x0 x2 x3 x8) n = logits x0 x2 x3 x8 n := fun n hn =>
    readRow arg13.view (logits x0 x2 x3 x8) n 69 hn (le_refl 69)
  have he : ∀ n, n < 69 → wgts x6 (rdRow arg13 (logits x0 x2 x3 x8) 22) (rdRow arg13 (logits x0 x2 x3 x8)) n
      = wgts x6 (logits x0 x2 x3 x8 22) (logits x0 x2 x3 x8) n := fun n hn =>
    wgts_congr _ _ _ _ _ n (hz 22 (by decide)) (hz n hn)
  unfold block
  rw [acc_congr _ _ _ _ 69 he, mass_congr _ _ 69 he]

end Cert.Proof.Fuse
-- ==== Proof.FuseIdeal.lean ====
/- The second kernel's output block over the extended reals, read at an index. -/
module

public import proofs.«01_k».proof.Proof.FuseOut
public import Idealize.ShloMosaic.Lib.Pointwise

@[expose] public section

set_option maxRecDepth 16384

noncomputable section

namespace Cert.Proof.Fuse

open Idealize.ShloMosaic Idealize.ShloMosaic.TcCoe Idealize.SL.Sem Cert.KernelIdeal Cert.KernelIdeal.Gen

/-- Row `i` of two blocks of 256 rows laid one after the other. -/
def two (x y : FVec Ideal S256x1024 .bf16) (i : ℕ) (k : Fin 1024) : EReal :=
  if h : i < 256 then x (ix2 ⟨i, h⟩ k) else y (ix2 ⟨(i - 256) % 256, Nat.mod_lt _ (by decide)⟩ k)

/-- A window's cut at a row is the two blocks' row at the offset. -/
theorem cut_at (x y : FVec Ideal S256x1024 .bf16) (n : ℕ) (r : Fin 256) (k : Fin 1024) :
    cut (F := Ideal) (k1_pay4 x y) n (ix2 r k) = two x y (8 * mul8 n + rem8 n + r) k := by
  pointwise [cut, k1_pay4, two]
  have e : rem8 n + (8 * mul8 n + (r : ℕ)) = 8 * mul8 n + rem8 n + r := by omega
  have hr := rem8_lt n
  have hm := mul8_lt n
  by_cases h : 8 * mul8 n + rem8 n + (r : ℕ) < 256
  · rw [dif_pos h, dif_pos (e ▸ h)]
    simp only [e]
  · rw [dif_neg h, dif_neg (e ▸ h)]
    have hlt : 8 * mul8 n + rem8 n + (r : ℕ) - 256 < 256 := by omega
    simp only [e, Nat.mod_eq_of_lt hlt]

/-- The logit of offset `o` at a row and a head. -/
def logitE (x0 x2 x3 : FVec Ideal S256x1024 .bf16) (x8 : FVec Ideal S1024x16 .bf16) (o : ℕ) (r : Fin 256) (h : Fin 16) : EReal :=
  ∑ k : Fin 1024, max (x0 (ix2 r k) + two x2 x3 (o + r) k) 0 * x8 (ix2 k h)

/-- The logits of a visit at an index. -/
theorem logits_at (x0 x2 x3 : FVec Ideal S256x1024 .bf16) (x8 : FVec Ideal S1024x16 .bf16) (n : ℕ) (r : Fin 256) (h : Fin 16) :
    logits (F := Ideal) x0 x2 x3 x8 n (ix3 0 r h) = logitE x0 x2 x3 x8 (8 * mul8 n + rem8 n) r h := by
  pointwise [logits, logit, k1_pay2, logitE]
  refine Finset.sum_congr rfl fun k _ => ?_
  rw [cut_at]

/-- The weights of a visit at an index. -/
theorem wgts_at (x6 : FVec Ideal S1x256x69 .f32) (zc : FVec Ideal S1x256x16 .bf16) (z : ℕ → FVec Ideal S1x256x16 .bf16) (n : ℕ) (r : Fin 256) (h : Fin 16) :
    wgts (F := Ideal) x6 zc z n (ix2 r h) = Ideal.exp (z n (ix3 0 r h) - zc (ix3 0 r h)) * x6 (ix3 0 r ⟨offs n, offs_lt n⟩) := by
  pointwise [wgts, wgt, k1_pay3, k1_pay107]

/-- A visit's contribution to the weighted sum at an index. -/
theorem term_at (e : ℕ → FVec Ideal S256x16 .f32) (x4 x5 : FVec Ideal S256x1024 .bf16) (x9 : FVec Ideal S16x1024 .bf16) (n : ℕ) (r : Fin 256) (k : Fin 1024) :
    term e (k1_pay108 x4 x5) x9 n (ix2 r k) = (∑ h : Fin 16, e n (ix2 r h) * x9 (ix2 h k)) * two x4 x5 (8 * mul8 n + rem8 n + r) k := by
  pointwise [term]
  exact congrArg _ (cut_at x4 x5 n r k)

/-- The weighted sum at an index is the sum of the visits' contributions. -/
theorem acc_at (e : ℕ → FVec Ideal S256x16 .f32) (hw : FVec Ideal S512x1024 .bf16) (x9 : FVec Ideal S16x1024 .bf16) (r : Fin 256) (k : Fin 1024) :
    ∀ N : ℕ, acc e hw x9 N (ix2 r k) = ∑ n ∈ Finset.range N, term e hw x9 n (ix2 r k)
  | 0 => by
    pointwise [acc]
    exact Finset.sum_range_zero _ |>.symm
  | N + 1 => by
    rw [Finset.sum_range_succ, ← acc_at e hw x9 r k N]
    rfl

/-- The sum of the weights at an index is the sum over the visits. -/
theorem mass_at (e : ℕ → FVec Ideal S256x16 .f32) (r : Fin 256) (h : Fin 16) :
    ∀ N : ℕ, mass e N (ix2 r h) = ∑ n ∈ Finset.range N, e n (ix2 r h)
  | 0 => by
    pointwise [mass]
    exact Finset.sum_range_zero _ |>.symm
  | N + 1 => by
    rw [Finset.sum_range_succ, ← mass_at e r h N]
    rfl

/-- The output block at an index. -/
theorem outBlock_at (a : FVec Ideal S256x1024 .f32) (l : FVec Ideal S256x16 .f32) (x9 : FVec Ideal S16x1024 .bf16) (x7 : FVec Ideal S1024x1024 .bf16)
    (x10 : FVec Ideal S1x1024 .f32) (x1 : FVec Ideal S256x1024 .f32) (r : Fin 256) (d : Fin 1024) :
    outBlock a l x9 x7 x10 x1 (ix2 r d)
      = (∑ k : Fin 1024, Ideal.div (a (ix2 r k)) (∑ h : Fin 16, l (ix2 r h) * x9 (ix2 h k)) * x7 (ix2 k d)) + x10 (ix2 0 d) + x1 (ix2 r d) := by
  pointwise [outBlock]

/-- The two-step cut of every visit starts at the visit's offset. -/
theorem offs_eq : ∀ n : Fin 69, 8 * mul8 n + rem8 n = offs n := by decide +kernel

/-- A sum over the visits is the sum over the offsets. -/
theorem sum_visits (f : ℕ → EReal) : ∑ n ∈ Finset.range 69, f (offs n) = ∑ o : Fin 69, f o := by
  rw [Finset.sum_range]
  have hinj : Function.Injective (fun n : Fin 69 => (⟨offs n, offs_lt n⟩ : Fin 69)) := fun a b h =>
    offs_inj a b (congrArg Fin.val h)
  exact (Finite.injective_iff_bijective.1 hinj).sum_comp (fun o : Fin 69 => f o)

/-- The weight of offset `o` at a row and a head. -/
def wgtE (x0 x2 x3 : FVec Ideal S256x1024 .bf16) (x6 : FVec Ideal S1x256x69 .f32) (x8 : FVec Ideal S1024x16 .bf16) (o : ℕ)
    (r : Fin 256) (h : Fin 16) : EReal :=
  Ideal.exp (logitE x0 x2 x3 x8 o r h - logitE x0 x2 x3 x8 34 r h) * x6 (ix3 0 r ⟨o % 69, Nat.mod_lt _ (by decide)⟩)

/-- The weight of visit `n` is the weight of its offset. -/
theorem wgt_at (x0 x2 x3 : FVec Ideal S256x1024 .bf16) (x6 : FVec Ideal S1x256x69 .f32) (x8 : FVec Ideal S1024x16 .bf16) (n : ℕ)
    (hn : n < 69) (r : Fin 256) (h : Fin 16) :
    wgts (F := Ideal) x6 (logits x0 x2 x3 x8 22) (logits x0 x2 x3 x8) n (ix2 r h) = wgtE x0 x2 x3 x6 x8 (offs n) r h := by
  rw [wgts_at, logits_at, logits_at, offs_eq ⟨n, hn⟩, offs_eq ⟨22, by decide⟩]
  show Ideal.exp (logitE x0 x2 x3 x8 (offs n) r h - logitE x0 x2 x3 x8 (offs 22) r h) * _ = _
  rw [offs_centre]
  unfold wgtE
  simp only [Nat.mod_eq_of_lt (offs_lt n)]

/-- The sum of weights at a row and a head. -/
def massE (x0 x2 x3 : FVec Ideal S256x1024 .bf16) (x6 : FVec Ideal S1x256x69 .f32) (x8 : FVec Ideal S1024x16 .bf16)
    (r : Fin 256) (h : Fin 16) : EReal :=
  ∑ o : Fin 69, wgtE x0 x2 x3 x6 x8 o r h

/-- The weighted sum of window rows at a row and a column. -/
def accE (x0 x2 x3 x4 x5 : FVec Ideal S256x1024 .bf16) (x6 : FVec Ideal S1x256x69 .f32) (x8 : FVec Ideal S1024x16 .bf16)
    (x9 : FVec Ideal S16x1024 .bf16) (r : Fin 256) (k : Fin 1024) : EReal :=
  ∑ o : Fin 69, (∑ h : Fin 16, wgtE x0 x2 x3 x6 x8 o r h * x9 (ix2 h k)) * two x4 x5 (o + r) k

/-- The output block at an index. -/
theorem block_at (x0 : FVec Ideal S256x1024 .bf16) (x1 : FVec Ideal S256x1024 .f32) (x2 x3 x4 x5 : FVec Ideal S256x1024 .bf16)
    (x6 : FVec Ideal S1x256x69 .f32) (x7 : FVec Ideal S1024x1024 .bf16) (x8 : FVec Ideal S1024x16 .bf16) (x9 : FVec Ideal S16x1024 .bf16)
    (x10 : FVec Ideal S1x1024 .f32) (r : Fin 256) (d : Fin 1024) :
    block (F := Ideal) x0 x1 x2 x3 x4 x5 x6 x7 x8 x9 x10 (ix2 r d)
      = (∑ k : Fin 1024, Ideal.div (accE x0 x2 x3 x4 x5 x6 x8 x9 r k) (∑ h : Fin 16, massE x0 x2 x3 x6 x8 r h * x9 (ix2 h k)) * x7 (ix2 k d))
        + x10 (ix2 0 d) + x1 (ix2 r d) := by
  unfold block
  rw [outBlock_at]
  refine congrArg (fun s : EReal => s + x10 (ix2 0 d) + x1 (ix2 r d)) (Finset.sum_congr rfl fun k _ => ?_)
  refine congrArg (· * x7 (ix2 k d)) (congrArg₂ Ideal.div ?_ (Finset.sum_congr rfl fun h _ => congrArg (· * x9 (ix2 h k)) ?_))
  · rw [acc_at, accE, ← sum_visits fun o => (∑ h : Fin 16, wgtE x0 x2 x3 x6 x8 o r h * x9 (ix2 h k)) * two x4 x5 (o + r) k]
    refine Finset.sum_congr rfl fun n hn => ?_
    have hn' : n < 69 := Finset.mem_range.1 hn
    rw [term_at, offs_eq ⟨n, hn'⟩]
    refine congrArg (· * two x4 x5 (offs n + r) k) (Finset.sum_congr rfl fun h _ => ?_)
    rw [wgt_at x0 x2 x3 x6 x8 n hn' r h]
  · rw [mass_at, massE, ← sum_visits fun o => wgtE x0 x2 x3 x6 x8 o r h]
    exact Finset.sum_congr rfl fun n hn => wgt_at x0 x2 x3 x6 x8 n (Finset.mem_range.1 hn) r h

end Cert.Proof.Fuse
-- ==== Proof.Fused.lean ====
/- The second kernel's result array as a function of the arrays it reads, over the extended reals. -/
module

public import proofs.«01_k».proof.Proof.FuseIdeal
public import Idealize.ShloMosaic.Lib.Pipeline.ValueKit

@[expose] public section

set_option maxRecDepth 16384

noncomputable section

namespace Cert.Proof.Fuse

open Idealize.ShloMosaic Idealize.ShloMosaic.TcCoe Idealize.SL.Sem Cert.KernelIdeal Cert.KernelIdeal.Gen
open Idealize.ShloMosaic.Pipeline (Dat)

/-- A padded array's row, taken modulo the rows so that every number names one. -/
def prow (a : FVec Ideal S2304x1024 .bf16) (i : ℕ) (k : Fin 1024) : EReal := a (ix2 ⟨i % 2304, Nat.mod_lt _ (by decide)⟩ k)

/-- The logit of row `i` and offset `o` for a head. -/
def logitR (q : FVec Ideal S2048x1024 .bf16) (n : FVec Ideal S2304x1024 .bf16) (w2 : FVec Ideal S1024x16 .bf16)
    (i : Fin 2048) (o : ℕ) (h : Fin 16) : EReal :=
  ∑ k : Fin 1024, max (q (ix2 i k) + prow n (i + o) k) 0 * w2 (ix2 k h)

/-- The weight of row `i` and offset `o` for a head, relative to the row itself, zero where the mask is. -/
def wgtR (q : FVec Ideal S2048x1024 .bf16) (n : FVec Ideal S2304x1024 .bf16) (w2 : FVec Ideal S1024x16 .bf16) (mask : FVec Ideal S8x256x69 .f32)
    (i : Fin 2048) (o : Fin 69) (h : Fin 16) : EReal :=
  Ideal.exp (logitR q n w2 i o h - logitR q n w2 i 34 h) * mask (ix3 ⟨i / 256, by omega⟩ ⟨i % 256, by omega⟩ o)

/-- The fused row before the output's product. -/
def fusedR (q : FVec Ideal S2048x1024 .bf16) (n hp : FVec Ideal S2304x1024 .bf16) (w2 : FVec Ideal S1024x16 .bf16)
    (mask : FVec Ideal S8x256x69 .f32) (rep : FVec Ideal S16x1024 .bf16) (i : Fin 2048) (k : Fin 1024) : EReal :=
  Ideal.div (∑ o : Fin 69, (∑ h : Fin 16, wgtR q n w2 mask i o h * rep (ix2 h k)) * prow hp (i + o) k)
    (∑ h : Fin 16, (∑ o : Fin 69, wgtR q n w2 mask i o h) * rep (ix2 h k))

/-- The result array. -/
def outR (q : FVec Ideal S2048x1024 .bf16) (x : FVec Ideal S2048x1024 .f32) (n hp : FVec Ideal S2304x1024 .bf16) (w2 : FVec Ideal S1024x16 .bf16)
    (mask : FVec Ideal S8x256x69 .f32) (wo : FVec Ideal S1024x1024 .bf16) (rep : FVec Ideal S16x1024 .bf16) (bo : FVec Ideal S1x1024 .f32)
    (i : Fin 2048) (d : Fin 1024) : EReal :=
  (∑ k : Fin 1024, fusedR q n hp w2 mask rep i k * wo (ix2 k d)) + bo (ix2 0 d) + x (ix2 i d)

/-- The result as an array. -/
def outA (q : FVec Ideal S2048x1024 .bf16) (x : FVec Ideal S2048x1024 .f32) (n hp : FVec Ideal S2304x1024 .bf16) (w2 : FVec Ideal S1024x16 .bf16)
    (mask : FVec Ideal S8x256x69 .f32) (wo : FVec Ideal S1024x1024 .bf16) (rep : FVec Ideal S16x1024 .bf16) (bo : FVec Ideal S1x1024 .f32) :
    FVec Ideal S2048x1024 .f32 :=
  fun j => outR q x n hp w2 mask wo rep bo (j 0) (j 1)

/-- The windows' block indices. -/
theorem idx1 : ∀ t : Fin cfg1.N, win1_0.index t = ![t.val, 0] ∧ win1_1.index t = ![t.val, 0] ∧ win1_2.index t = ![t.val, 0] ∧ win1_3.index t = ![t.val + 1, 0]
    ∧ win1_4.index t = ![t.val, 0] ∧ win1_5.index t = ![t.val + 1, 0] ∧ win1_6.index t = ![t.val, 0, 0] ∧ win1_7.index t = ![0, 0]
    ∧ win1_8.index t = ![0, 0] ∧ win1_9.index t = ![0, 0] ∧ win1_10.index t = ![0, 0] ∧ win1_11.index t = ![t.val, 0] :=
  (by decide +kernel : ∀ t : Fin grid1.N, _)

variable (V : (c : Dev nD) → (b : Ref sig .tc) → Buf (Elt Ideal) ((c : Thread nD τ).loc b))

/-- Row `r` of block `t`. -/
def at256 (t : Fin cfg1.N) (r : Fin 256) : Fin 2048 := ⟨256 * t.val + r, by have : t.val < 8 := t.isLt; omega⟩

/-- A point's block of the centre's half holds that block of rows. -/
theorem blk_0 (c : Dev nD) (t : Fin cfg1.N) (r : Fin 256) (k : Fin 1024) : iblk1 V c 0 t (ix2 r k) = V c main_v23_1 (ix2 (at256 t r) k) := by
  blk_point [iblk1, at256, idx1 t]

/-- A point's block of the input holds that block of rows. -/
theorem blk_1 (c : Dev nD) (t : Fin cfg1.N) (r : Fin 256) (k : Fin 1024) : iblk1 V c 1 t (ix2 r k) = V c main_v0 (ix2 (at256 t r) k) := by
  blk_point [iblk1, at256, idx1 t]

/-- A point's first block of the padded neighbour's half holds the rows from its own first row on. -/
theorem blk_2 (c : Dev nD) (t : Fin cfg1.N) (r : Fin 256) (k : Fin 1024) : iblk1 V c 2 t (ix2 r k) = prow (V c main_v25) (256 * t + r) k := by
  blk_point [iblk1, prow, idx1 t]

/-- The second block holds the next 256 rows. -/
theorem blk_3 (c : Dev nD) (t : Fin cfg1.N) (r : Fin 256) (k : Fin 1024) : iblk1 V c 3 t (ix2 r k) = prow (V c main_v25) (256 * t + 256 + r) k := by
  blk_point [iblk1, prow, idx1 t]

/-- A point's first block of the padded projected rows holds the rows from its own first row on. -/
theorem blk_4 (c : Dev nD) (t : Fin cfg1.N) (r : Fin 256) (k : Fin 1024) : iblk1 V c 4 t (ix2 r k) = prow (V c main_v24) (256 * t + r) k := by
  blk_point [iblk1, prow, idx1 t]

/-- The second block holds the next 256 rows. -/
theorem blk_5 (c : Dev nD) (t : Fin cfg1.N) (r : Fin 256) (k : Fin 1024) : iblk1 V c 5 t (ix2 r k) = prow (V c main_v24) (256 * t + 256 + r) k := by
  blk_point [iblk1, prow, idx1 t]

/-- A point's block of the mask is the mask's slab of that number. -/
theorem blk_6 (c : Dev nD) (t : Fin cfg1.N) (r : Fin 256) (o : Fin 69) : iblk1 V c 6 t (ix3 0 r o) = V c main_cst (ix3 ⟨t.val, t.isLt⟩ r o) := by
  blk_point [iblk1, idx1 t]

/-- Every point holds the whole output matrix. -/
theorem blk_7 (c : Dev nD) (t : Fin cfg1.N) (k d : Fin 1024) : iblk1 V c 7 t (ix2 k d) = V c main_v26 (ix2 k d) := by
  blk_point [iblk1, idx1 t]

/-- Every point holds all of the second layer's columns. -/
theorem blk_8 (c : Dev nD) (t : Fin cfg1.N) (k : Fin 1024) (h : Fin 16) : iblk1 V c 8 t (ix2 k h) = V c main_v12 (ix2 k h) := by
  blk_point [iblk1, idx1 t]

/-- Every point holds the whole spread table. -/
theorem blk_9 (c : Dev nD) (t : Fin cfg1.N) (h : Fin 16) (k : Fin 1024) : iblk1 V c 9 t (ix2 h k) = V c main_v22 (ix2 h k) := by
  blk_point [iblk1, idx1 t]

/-- Every point holds the whole bias row. -/
theorem blk_10 (c : Dev nD) (t : Fin cfg1.N) (d : Fin 1024) : iblk1 V c 10 t (ix2 0 d) = V c main_v21 (ix2 0 d) := by
  blk_point [iblk1, idx1 t]

/-- The two stacked blocks of one point are 512 consecutive rows of the padded array. -/
theorem two_n (c : Dev nD) (t : Fin cfg1.N) (i : ℕ) (hi : i < 512) (k : Fin 1024) :
    two (iblk1 V c 2 t) (iblk1 V c 3 t) i k = prow (V c main_v25) (256 * t + i) k := by
  unfold two
  split
  · rw [blk_2]
  · rw [blk_3]
    exact congrArg (prow (V c main_v25) · k) (by simp only; omega)

/-- The same of the padded projected rows. -/
theorem two_h (c : Dev nD) (t : Fin cfg1.N) (i : ℕ) (hi : i < 512) (k : Fin 1024) :
    two (iblk1 V c 4 t) (iblk1 V c 5 t) i k = prow (V c main_v24) (256 * t + i) k := by
  unfold two
  split
  · rw [blk_4]
  · rw [blk_5]
    exact congrArg (prow (V c main_v24) · k) (by simp only; omega)

/-- A point's logits are those of its rows. -/
theorem logit_blk (c : Dev nD) (t : Fin cfg1.N) (o : ℕ) (ho : o < 69) (r : Fin 256) (h : Fin 16) :
    logitE (iblk1 V c 0 t) (iblk1 V c 2 t) (iblk1 V c 3 t) (iblk1 V c 8 t) o r h
      = logitR (V c main_v23_1) (V c main_v25) (V c main_v12) (at256 t r) o h := by
  unfold logitE logitR
  refine Finset.sum_congr rfl fun k _ => ?_
  rw [blk_0, blk_8, two_n V c t (o + r) (by omega)]
  exact congrArg (fun a => max (_ + prow (V c main_v25) a k) 0 * _) (by simp only [at256]; omega)

/-- A point's weights are those of its rows. -/
theorem wgt_blk (c : Dev nD) (t : Fin cfg1.N) (o : Fin 69) (r : Fin 256) (h : Fin 16) :
    wgtE (iblk1 V c 0 t) (iblk1 V c 2 t) (iblk1 V c 3 t) (iblk1 V c 6 t) (iblk1 V c 8 t) o r h
      = wgtR (V c main_v23_1) (V c main_v25) (V c main_v12) (V c main_cst) (at256 t r) o h := by
  unfold wgtE wgtR
  rw [logit_blk V c t o o.isLt, logit_blk V c t 34 (by decide), blk_6]
  have ht : t.val < 8 := t.isLt
  have e1 : (⟨t.val, t.isLt⟩ : Fin 8) = ⟨(at256 t r : ℕ) / 256, by omega⟩ := Fin.ext (by simp only [at256]; omega)
  have e2 : r = ⟨(at256 t r : ℕ) % 256, by omega⟩ := Fin.ext (by simp only [at256]; omega)
  have e3 : (⟨(o : ℕ) % 69, Nat.mod_lt _ (by decide)⟩ : Fin 69) = o := Fin.ext (Nat.mod_eq_of_lt o.isLt)
  rw [e3, ← e1, ← e2]

/-- The second kernel's result array. -/
theorem final11 (c : Dev nD) : (dat1 V c).arrAt 11 cfg1.N = outA (V c main_v23_1) (V c main_v0) (V c main_v25) (V c main_v24)
    (V c main_v12) (V c main_cst) (V c main_v26) (V c main_v22) (V c main_v21) := by
  refine (dat1 V c).arrAt_eq_of_covers 11 _ (by decide +kernel) fun t _ y => ?_
  blk_simp
  rw [after1_11]
  unfold outsAt1
  rw [out_eq]
  idx_vars y
  rw [block_at]
  have e : ((View.whole main_v27).slice (win1_11.rect t)).emb (ix2 y0 y1) = ix2 (at256 t y0) y1 := by
    blk_ext [at256, idx1 t]
  rw [e]
  show _ = outR _ _ _ _ _ _ _ _ _ (at256 t y0) y1
  unfold outR fusedR massE accE
  rw [blk_10, blk_1]
  refine congrArg (· + _ + _) (Finset.sum_congr rfl fun k _ => ?_)
  rw [blk_7]
  refine congrArg (· * _) (congrArg₂ Ideal.div (Finset.sum_congr rfl fun o _ => ?_) (Finset.sum_congr rfl fun h _ => ?_))
  · rw [two_h V c t (o + y0) (by omega)]
    refine congrArg₂ (· * ·) (Finset.sum_congr rfl fun h _ => ?_) (congrArg (prow (V c main_v24) · k) (by simp only [at256]; omega))
    rw [wgt_blk, blk_9]
  · rw [blk_9]
    exact congrArg (· * _) (Finset.sum_congr rfl fun o _ => wgt_blk V c t o y0 h)

end Cert.Proof.Fuse
-- ==== Proof.KernelRun.lean ====
/- The kernel's run over the extended reals: its result array and its arguments at the end. -/
module

public import proofs.«01_k».proof.Proof.Entry
public import proofs.«01_k».proof.Proof.Fused

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Proof.Fuse

variable (m : (ℓ : Loc nD τ sig) → Buf (Elt Ideal) ℓ) (ρ : Dev nD → PrngReg)

/-- The program's result over what the second kernel finds. -/
def kernelOut (c : Dev nD) : FVec Ideal S1x2048x1024 .f32 :=
  shapeCast S1x2048x1024 (outA (V12 m ρ c main_v23_1) (V12 m ρ c main_v0) (V12 m ρ c main_v25) (V12 m ρ c main_v24)
    (V12 m ρ c main_v12) (V12 m ρ c main_cst) (V12 m ρ c main_v26) (V12 m ρ c main_v22) (V12 m ρ c main_v21)) shapeCasts_S2048x1024_S1x2048x1024

/-- The result's buffer at the end. -/
theorem v28_out (c : Dev nD) : W14 m ρ c (Proc.devRef .tc main_v28) = kernelOut m ρ c := by
  have h := (W13_arr m ρ c 11).trans (final11 (V12 m ρ) c)
  revert h
  unfold kernelOut
  generalize outA (V12 m ρ c main_v23_1) (V12 m ρ c main_v0) (V12 m ρ c main_v25) (V12 m ρ c main_v24)
    (V12 m ρ c main_v12) (V12 m ρ c main_cst) (V12 m ρ c main_v26) (V12 m ρ c main_v22) (V12 m ρ c main_v21) = A
  show W13 m ρ c (Proc.devRef .tc main_v27) = A → StableHlo.after hostOps2 (W13 m ρ c) _ = _
  generalize W13 m ρ c = U
  intro h
  entry_read
  rw [h]
  rfl

set_option backward.isDefEq.respectTransparency.types false in
/-- Every run ends with the result's buffer at `kernelOut` and the arguments as they were. -/
theorem run : θ_run defs (onTc (τ := τ) (main (F := Ideal))) ⟨m, fun _ => 0, ρ⟩ (fun r => ∀ c : Dev nD,
    r.2.mem ((c.tc : Thread nD τ).loc main_v28) = kernelOut m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => (fun c =>
      ⟨(h c _ (mem_uc main_v28 (by decide))).trans (v28_out m ρ c),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩))

end Cert.Proof.KernelRun
-- ==== Proof.Softmax.lean ====
/- Sums, softmax and real numbers among the extended reals: the arithmetic that joins the kernel and the reference. -/
module

public import Idealize.ShloMosaic.Lib.IdealHost
public import Idealize.ShloMosaic.Lib.Pointwise

@[expose] public section

noncomputable section

namespace Cert.Proof.Arith

open Idealize.ShloMosaic

/-- An extended real that is a real number. -/
def IsReal (x : EReal) : Prop := ∃ r : ℝ, x = (r : EReal)

/-- An extended real that is neither infinity is real. -/
theorem isReal_of_ne {x : EReal} (h : x ≠ ⊤) (h' : x ≠ ⊥) : IsReal x := ⟨x.toReal, (EReal.coe_toReal h h').symm⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  rcases max_choice x y with h | h <;> rw [h] <;> assumption

/-- Zero is real. -/
theorem isReal_zero : IsReal 0 := ⟨0, rfl⟩

/-- A finite sum of reals is real. -/
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- The greatest of finitely many reals and bottom is a real or, of none, bottom. -/
theorem fold_max {ι : Type} (s : Finset ι) (f : ι → EReal) (h : ∀ i, IsReal (f i)) :
    IsReal (s.fold max ⊥ f) ∨ s = ∅ := by
  classical
  induction s using Finset.induction_on with
  | empty => exact .inr rfl
  | insert a s ha ih =>
    left
    rw [Finset.fold_insert ha]
    rcases ih with ih | ih
    · exact (h a).max ih
    · rw [ih, Finset.fold_empty, max_bot_right]
      exact h a

/-- A sum of reals is the same among the extended reals. -/
theorem coe_sum {ι : Type} (s : Finset ι) (f : ι → ℝ) : (∑ i ∈ s, (f i : EReal)) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- A weighted mean with weights relative to one logit is the mean with softmax weights of the logits shifted by any number. -/
theorem soft_mean {n : ℕ} (hn : 0 < n) (z p : Fin n → ℝ) (z0 b t : ℝ) :
    Ideal.div (∑ k, Ideal.exp ((z k : EReal) - (z0 : EReal)) * (p k : EReal)) (∑ k, Ideal.exp ((z k : EReal) - (z0 : EReal)))
      = ∑ k, Ideal.div (Ideal.exp ((z k : EReal) + (b : EReal) - (t : EReal))) (∑ j, Ideal.exp ((z j : EReal) + (b : EReal) - (t : EReal))) * (p k : EReal) := by
  have e1 : ∀ k, Ideal.exp ((z k : EReal) - (z0 : EReal)) = ((Real.exp (z k - z0) : ℝ) : EReal) := fun k => by
    rw [← EReal.coe_sub, Ideal.exp_coe]
  have e2 : ∀ k, Ideal.exp ((z k : EReal) + (b : EReal) - (t : EReal)) = ((Real.exp (z k + b - t) : ℝ) : EReal) := fun k => by
    rw [← EReal.coe_add, ← EReal.coe_sub, Ideal.exp_coe]
  have : Nonempty (Fin n) := ⟨⟨0, hn⟩⟩
  have h1 : (∑ k, Real.exp (z k - z0)) ≠ 0 := (Finset.sum_pos (fun k _ => Real.exp_pos _) Finset.univ_nonempty).ne'
  have h2 : (∑ k, Real.exp (z k + b - t)) ≠ 0 := (Finset.sum_pos (fun k _ => Real.exp_pos _) Finset.univ_nonempty).ne'
  simp only [e1, e2, ← EReal.coe_mul, coe_sum]
  rw [Ideal.div_coe h1, ← EReal.coe_mul]
  simp only [Ideal.div_coe h2, ← EReal.coe_mul, coe_sum]
  refine congrArg _ ?_
  have e3 : ∀ k, Real.exp (z k + b - t) = Real.exp (z k - z0) * Real.exp (z0 + b - t) := fun k => by
    rw [← Real.exp_add]; congr 1; ring
  have e4 : ∑ k, Real.exp (z k + b - t) = (∑ k, Real.exp (z k - z0)) * Real.exp (z0 + b - t) := by
    rw [Finset.sum_mul]; exact Finset.sum_congr rfl fun k _ => e3 k
  have h3 : Real.exp (z0 + b - t) ≠ 0 := (Real.exp_pos _).ne'
  rw [Finset.sum_mul]
  refine Finset.sum_congr rfl fun k _ => ?_
  rw [e3, e4]
  field_simp

/-- A sum over offsets that keeps those that routes name, each of them once, is the sum over the routes. -/
theorem sum_routes {a b : ℕ} (off : Fin a → Fin b) (f g : Fin b → EReal)
    (h : ∀ o, (f o = 0 ∧ (Finset.univ.filter fun k => off k = o).card = 0) ∨ (f o = g o ∧ (Finset.univ.filter fun k => off k = o).card = 1)) :
    ∑ o, f o = ∑ k, g (off k) := by
  rw [← Finset.sum_fiberwise Finset.univ off fun k => g (off k)]
  refine Finset.sum_congr rfl fun o _ => ?_
  have e : ∑ k ∈ Finset.univ.filter (fun k => off k = o), g (off k) = ∑ k ∈ Finset.univ.filter (fun k => off k = o), g o :=
    Finset.sum_congr rfl fun k hk => by rw [(Finset.mem_filter.1 hk).2]
  rw [e, Finset.sum_const]
  rcases h o with h | h
  · rw [h.1, h.2, zero_smul]
  · rw [h.1, h.2, one_smul]

/-- A sum over `a * b` places that vanishes off one group of `b` is the sum over that group. -/
theorem sum_group (f : Fin 1024 → EReal) (c : Fin 16) (h : ∀ k : Fin 1024, (k : ℕ) / 64 ≠ c → f k = 0) :
    ∑ k, f k = ∑ d : Fin 64, f ⟨64 * c + d, by omega⟩ := by
  have hi : Function.Injective fun d : Fin 64 => (⟨64 * c + d, by omega⟩ : Fin 1024) := fun d e he => by
    have := Fin.ext_iff.1 he
    exact Fin.ext (by simp only at this; omega)
  rw [← Finset.sum_image (s := Finset.univ) (g := fun d : Fin 64 => (⟨64 * c + d, by omega⟩ : Fin 1024)) (f := f) (fun x _ y _ hxy => hi hxy)]
  refine (Finset.sum_subset (Finset.subset_univ _) fun k _ hk => h k fun hc => hk ?_).symm
  refine Finset.mem_image.2 ⟨⟨k % 64, Nat.mod_lt _ (by decide)⟩, Finset.mem_univ _, Fin.ext ?_⟩
  simp only
  omega

end Cert.Proof.Arith
-- ==== Proof.TableDefs.lean ====
/- The two programs' constant tables by number. -/
module

public import proofs.«01_k».proof.KernelIdeal
public import proofs.«01_k».proof.ReferenceIdeal

@[expose] public section

noncomputable section

namespace Cert.Proof.Rows

/-- The routes' table by number. -/
def routeAt (n : ℕ) : ℕ := (Cert.ReferenceIdeal.lit0 (Fin.ofNat 65536 n)).toNat

/-- The mask's table by number. -/
def maskAt (n : ℕ) : ℕ := (Cert.KernelIdeal.lit0 (Fin.ofNat 141312 n)).toNat

/-- The heads' spread table by number. -/
def spreadAt (n : ℕ) : ℕ := (Cert.KernelIdeal.lit1 (Fin.ofNat 16384 n)).toNat

/-- The spread table's entry: the word of one where the column belongs to the head. -/
def spreadOk (n : ℕ) : Bool := Nat.beq (spreadAt n) (bif Nat.beq (n / 1024) (n % 1024 / 64) then 1065353216 else 0)

end Cert.Proof.Rows
-- ==== Proof.RowCheck.lean ====
/- A check, by computation, that a row of a mask marks exactly the offsets of a row of a table of routes, each of them once. -/
module

public import Mathlib.Algebra.BigOperators.Fin
public import Mathlib.Algebra.BigOperators.Ring.Finset
public import Mathlib.Algebra.Order.BigOperators.Group.Finset
public import Mathlib.Tactic.Ring
public import Mathlib.Data.Fintype.Card

@[expose] public section

namespace Cert.Proof.Rows

/-- The sum of the first `n` values. -/
def sumTo (f : ℕ → ℕ) : ℕ → ℕ
  | 0 => 0
  | n + 1 => sumTo f n + f n

/-- Whether the first `n` values are all true. -/
def allTo (f : ℕ → Bool) : ℕ → Bool
  | 0 => true
  | n + 1 => allTo f n && f n

/-- `sumTo` is the sum over a range. -/
theorem sumTo_eq (f : ℕ → ℕ) : ∀ n, sumTo f n = ∑ k ∈ Finset.range n, f k
  | 0 => rfl
  | n + 1 => by rw [Finset.sum_range_succ, ← sumTo_eq f n]; rfl

/-- What holds of all of the first numbers holds of each of them. -/
theorem allTo_get (f : ℕ → Bool) : ∀ n, allTo f n = true → ∀ k, k < n → f k = true
  | 0, _, k, h => absurd h (Nat.not_lt_zero k)
  | n + 1, h, k, hk => by
    have h' : (allTo f n && f n) = true := h
    rw [Bool.and_eq_true] at h'
    rcases Nat.lt_succ_iff_lt_or_eq.1 hk with h1 | h1
    · exact allTo_get f n h'.1 k h1
    · exact h1 ▸ h'.2

/-- A mask's word as a count: none for zero, one for the word of the number one, and 63 for any other word. -/
def bitOf (w : ℕ) : ℕ := bif Nat.beq w 0 then 0 else bif Nat.beq w 1065353216 then 1 else 63

/-- The check of row `i`: its routes are in range, and the counts of their offsets, read as digits, are the mask's. -/
def rowOk (R M : ℕ → ℕ) (i : ℕ) : Bool :=
  allTo (fun k => Nat.ble (R (32 * i + k) + 1) 2048 && (Nat.ble i (R (32 * i + k) + 34) && Nat.ble (R (32 * i + k) + 34) (i + 68))) 32
    && Nat.beq (sumTo (fun k => 64 ^ (R (32 * i + k) + 34 - i)) 32) (sumTo (fun o => bitOf (M (69 * i + o)) * 64 ^ o) 69)

/-- A number below the base at every place is less than the next power. -/
theorem digits_lt (a : ℕ → ℕ) (ha : ∀ o, a o < 64) : ∀ n, ∑ o ∈ Finset.range n, a o * 64 ^ o < 64 ^ n
  | 0 => by simp
  | n + 1 => by
    rw [Finset.sum_range_succ, pow_succ]
    have h := digits_lt a ha n
    have h1 : a n * 64 ^ n ≤ 63 * 64 ^ n := Nat.mul_le_mul_right _ (by have := ha n; omega)
    omega

/-- Digits are determined by the number they write. -/
theorem digits_inj (a b : ℕ → ℕ) (ha : ∀ o, a o < 64) (hb : ∀ o, b o < 64) :
    ∀ n, (∑ o ∈ Finset.range n, a o * 64 ^ o = ∑ o ∈ Finset.range n, b o * 64 ^ o) → ∀ o, o < n → a o = b o
  | 0, _, o, ho => absurd ho (Nat.not_lt_zero o)
  | n + 1, h, o, ho => by
    rw [Finset.sum_range_succ, Finset.sum_range_succ] at h
    have la := digits_lt a ha n
    have lb := digits_lt b hb n
    have hp : 0 < 64 ^ n := Nat.pow_pos (by decide)
    have hab : a n = b n := by
      have e1 : (∑ o ∈ Finset.range n, a o * 64 ^ o + a n * 64 ^ n) / 64 ^ n = a n := by
        rw [Nat.add_mul_div_right _ _ hp, Nat.div_eq_of_lt la, Nat.zero_add]
      have e2 : (∑ o ∈ Finset.range n, b o * 64 ^ o + b n * 64 ^ n) / 64 ^ n = b n := by
        rw [Nat.add_mul_div_right _ _ hp, Nat.div_eq_of_lt lb, Nat.zero_add]
      rw [← e1, ← e2, h]
    rcases Nat.lt_succ_iff_lt_or_eq.1 ho with h1 | h1
    · rw [hab] at h
      exact digits_inj a b ha hb n (Nat.add_right_cancel h) o h1
    · rw [h1, hab]

/-- A mask's word counts for less than 64. -/
theorem bitOf_lt (w : ℕ) : bitOf w < 64 := by
  unfold bitOf
  cases Nat.beq w 0 <;> cases Nat.beq w 1065353216 <;> decide

/-- What the check of a row establishes. -/
theorem rowOk_sound (R M : ℕ → ℕ) (i : ℕ) (h : rowOk R M i = true) :
    ∃ off : Fin 32 → Fin 69, (∀ k : Fin 32, R (32 * i + k) < 2048 ∧ i + (off k : ℕ) = R (32 * i + k) + 34)
      ∧ ∀ o : Fin 69, (M (69 * i + o) = 0 ∧ (Finset.univ.filter fun k => off k = o).card = 0)
        ∨ (M (69 * i + o) = 1065353216 ∧ (Finset.univ.filter fun k => off k = o).card = 1) := by
  unfold rowOk at h
  rw [Bool.and_eq_true] at h
  obtain ⟨h1, h2⟩ := h
  have h1' : ∀ k : Fin 32, R (32 * i + k) + 1 ≤ 2048 ∧ i ≤ R (32 * i + k) + 34 ∧ R (32 * i + k) + 34 ≤ i + 68 := by
    intro k
    have h3 := allTo_get _ 32 h1 k k.isLt
    simp only [Bool.and_eq_true, Nat.ble_eq] at h3
    exact h3
  refine ⟨fun k => ⟨R (32 * i + k) + 34 - i, by have := h1' k; omega⟩, fun k => ⟨by have := h1' k; omega, by have := h1' k; simp only; omega⟩, ?_⟩
  generalize hoff : (fun k : Fin 32 => (⟨R (32 * i + k) + 34 - i, by have := h1' k; omega⟩ : Fin 69)) = off
  have h4 := Nat.eq_of_beq_eq_true h2
  rw [sumTo_eq, sumTo_eq] at h4
  have h5 : ∑ k ∈ Finset.range 32, 64 ^ (R (32 * i + k) + 34 - i) = ∑ o ∈ Finset.range 69, (Finset.univ.filter fun k => (off k : ℕ) = o).card * 64 ^ o := by
    rw [← Fin.sum_univ_eq_sum_range (fun k => 64 ^ (R (32 * i + k) + 34 - i)) 32]
    have e : ∀ k : Fin 32, 64 ^ (R (32 * i + k) + 34 - i) = ∑ o ∈ Finset.range 69, if (off k : ℕ) = o then 64 ^ o else 0 := by
      intro k
      rw [Finset.sum_ite_eq, if_pos (Finset.mem_range.2 (off k).isLt), ← hoff]
    rw [Finset.sum_congr rfl fun k _ => e k, Finset.sum_comm]
    refine Finset.sum_congr rfl fun o _ => ?_
    rw [← Finset.sum_filter, Finset.sum_const, smul_eq_mul]
  rw [h5] at h4
  intro o
  have h6 := digits_inj _ _ (fun o => lt_of_le_of_lt ((Finset.card_filter_le _ _).trans (le_of_eq (Finset.card_fin 32))) (by decide : 32 < 64))
    (fun o => bitOf_lt _) 69 h4 o o.isLt
  have h7 : (Finset.univ.filter fun k => (off k : ℕ) = (o : ℕ)) = Finset.univ.filter fun k => off k = o :=
    Finset.filter_congr fun k _ => Fin.ext_iff.symm
  rw [h7] at h6
  have h8 : (Finset.univ.filter fun k => off k = o).card ≤ 32 := (Finset.card_filter_le _ _).trans (le_of_eq (Finset.card_fin 32))
  rw [h6]
  rw [h6] at h8
  unfold bitOf at h8 ⊢
  cases h9 : Nat.beq (M (69 * i + o)) 0 with
  | true => exact .inl ⟨Nat.eq_of_beq_eq_true h9, rfl⟩
  | false =>
    cases h10 : Nat.beq (M (69 * i + o)) 1065353216 with
    | true => exact .inr ⟨Nat.eq_of_beq_eq_true h10, rfl⟩
    | false =>
      rw [h9, h10] at h8
      exact absurd h8 (by decide)

end Cert.Proof.Rows
-- ==== Proof.KernelArrays.lean ====
/- The arrays the kernels read, at an index: sums against the block diagonals, the heads' spread and the mask. -/
module

public import proofs.«01_k».proof.Proof.Entry
public import proofs.«01_k».proof.Proof.Softmax
public import proofs.«01_k».proof.Proof.TableDefs
public import proofs.«01_k».proof.Proof.RowCheck

@[expose] public section

set_option maxRecDepth 16384

noncomputable section

namespace Cert.Proof.Arrays

open Idealize.ShloMosaic Idealize.ShloMosaic.TcCoe Idealize.SL.Sem Cert.KernelIdeal Cert.KernelIdeal.Gen Cert.Proof.Host Cert.Proof.Arith Cert.Proof.Rows

/-- The two block diagonals side by side. -/
def both (wq wn : FVec Ideal S64x64 .f32) : FVec Ideal S1024x2048 .bf16 :=
  truncf .bf16 (concatenate S1024x2048 1 [⟨S1024x1024, diag wq⟩, ⟨S1024x1024, diag wn⟩] concatenates_S1024x1024_S1024x1024_S1024x2048_d1) bitsLt_bf16_f32

/-- The left half is the first block diagonal. -/
theorem both_left (wq wn : FVec Ideal S64x64 .f32) (k d : Fin 1024) : both wq wn (ix2 k ⟨d, by omega⟩) = diag wq (ix2 k d) := by
  pointwise [both]

/-- The right half is the second block diagonal. -/
theorem both_right (wq wn : FVec Ideal S64x64 .f32) (k d : Fin 1024) : both wq wn (ix2 k ⟨1024 + d, by omega⟩) = diag wn (ix2 k d) := by
  pointwise [both]

/-- A sum against a column of a block diagonal is a sum over one head's places. -/
theorem sum_diag (p : Fin 1024 → EReal) (w : FVec Ideal S64x64 .f32) (h : Fin 16) (e : Fin 64) :
    ∑ k, p k * diag w (ix2 k ⟨64 * h + e, by omega⟩) = ∑ d : Fin 64, p ⟨64 * h + d, by omega⟩ * w (ix2 d e) := by
  rw [sum_group _ h]
  · refine Finset.sum_congr rfl fun d _ => ?_
    rw [diag_at, eye_at, if_pos (Fin.ext (by simp only; omega)), one_mul]
    exact congrArg (p _ * w ·) (congrArg₂ ix2 (Fin.ext (by simp only; omega)) (Fin.ext (by simp only; omega)))
  · intro k hk
    rw [diag_at, eye_at, if_neg (fun he => hk (by have := Fin.ext_iff.1 he; simp only at this; omega)), zero_mul, mul_zero]

/-- A sum against a head's column of the block-diagonal column is a sum over that head's places. -/
theorem sum_diagCol (p : Fin 1024 → EReal) (w : FVec Ideal S64x1 .f32) (h : Fin 16) :
    ∑ k, p k * diagCol w (ix2 k h) = ∑ e : Fin 64, p ⟨64 * h + e, by omega⟩ * w (ix2 e 0) := by
  rw [sum_group _ h]
  · refine Finset.sum_congr rfl fun d _ => ?_
    rw [diagCol_at, eye_at, if_pos (Fin.ext (by simp only; omega)), one_mul]
    exact congrArg (p _ * w ·) (congrArg₂ ix2 (Fin.ext (by simp only; omega)) rfl)
  · intro k hk
    rw [diagCol_at, eye_at, if_neg (fun he => hk (by have := Fin.ext_iff.1 he; simp only at this; omega)), zero_mul, mul_zero]

/-- The first layer's bias repeated for every head. -/
def biasRow (b1 : FVec Ideal S64 .f32) : FVec Ideal S1x1024 .f32 :=
  shapeCast S1x1024 (shapeCast S1024 (broadcastInDim S16x64 ![0, 1] bcast_S1x64_S16x64_0_1 (shapeCast S1x64 b1 shapeCasts_S64_S1x64)) shapeCasts_S16x64_S1024)
    shapeCasts_S1024_S1x1024

/-- The repeated bias at a head's place. -/
theorem biasRow_at (b1 : FVec Ideal S64 .f32) (h : Fin 16) (e : Fin 64) : biasRow b1 (ix2 0 ⟨64 * h + e, by omega⟩) = b1 (ix1 e) := by
  pointwise [biasRow]

/-- The output's bias row. -/
def outRow (bo : FVec Ideal S1024 .f32) (b2 : FVec Ideal S1 .f32) : FVec Ideal S1x1024 .f32 :=
  shapeCast S1x1024 (addf bo (broadcastInDim S1024 ![] bcast_S_S1024 (mulf (shapeCast S_ b2 shapeCasts_S1_S_) (constant S_ .f32 0x00000000#32))))
    shapeCasts_S1024_S1x1024

/-- The output's bias row is the bias: zero times the second layer's bias is zero. -/
theorem outRow_at (bo : FVec Ideal S1024 .f32) (b2 : FVec Ideal S1 .f32) (d : Fin 1024) : outRow bo b2 (ix2 0 d) = bo (ix1 d) := by
  pointwise [outRow]
  rw [mul_zero, add_zero]

/-- The heads' spread table as an array. -/
def spread : FVec Ideal S16x1024 .bf16 := truncf .bf16 (fun i => FloatOps.ofBits .f32 (lit1 (S16x1024.rowMajor i)) : FVec Ideal S16x1024 .f32) bitsLt_bf16_f32

/-- The mask's table as an array. -/
def mask : FVec Ideal S8x256x69 .f32 := fun i => FloatOps.ofBits .f32 (lit0 (S8x256x69.rowMajor i))

/-- The spread table's index as a number. -/
theorem number2 (h : Fin 16) (c : Fin 1024) : S16x1024.rowMajor (ix2 h c) = Fin.ofNat 16384 (1024 * h + c) := by
  refine Fin.ext ?_
  rw [Shape.rowMajor_val_two]
  show (h : ℕ) * 1024 + c = (1024 * h + c) % 16384
  omega

/-- The mask's index as a number. -/
theorem number3 (a : Fin 8) (b : Fin 256) (o : Fin 69) : S8x256x69.rowMajor (ix3 a b o) = Fin.ofNat 141312 (69 * (256 * a + b) + o) := by
  refine Fin.ext ?_
  rw [Shape.rowMajor_val_three]
  show ((a : ℕ) * 256 + b) * 69 + o = (69 * (256 * a + b) + o) % 141312
  omega

/-- The word of one and the word of zero. -/
theorem one_of (w : BitVec 32) (h : w.toNat = 1065353216) : (FloatOps.ofBits (F := Ideal) .f32 w : EReal) = 1 := by
  rw [show w = 0x3F800000#32 from BitVec.eq_of_toNat_eq h]
  exact Ideal.ofBits_one_f32

/-- The word of the number zero. -/
theorem zero_of (w : BitVec 32) (h : w.toNat = 0) : (FloatOps.ofBits (F := Ideal) .f32 w : EReal) = 0 := by
  rw [show w = 0x00000000#32 from BitVec.eq_of_toNat_eq h]
  exact Ideal.ofBits_zero_f32

/-- The spread table is one where the column belongs to the head. -/
theorem spread_at (hs : ∀ i, i < 16384 → spreadOk i = true) (h : Fin 16) (c : Fin 1024) : spread (ix2 h c) = if (h : ℕ) = c / 64 then 1 else 0 := by
  show (FloatOps.ofBits (F := Ideal) .f32 (lit1 (S16x1024.rowMajor (ix2 h c))) : EReal) = _
  rw [number2]
  have e : spreadAt (1024 * h + c) = _ := Nat.eq_of_beq_eq_true (hs (1024 * h + c) (by omega))
  have e1 : (1024 * (h : ℕ) + c) / 1024 = h := by omega
  have e2 : (1024 * (h : ℕ) + c) % 1024 = c := by omega
  rw [e1, e2] at e
  by_cases hc : (h : ℕ) = c / 64
  · rw [if_pos hc]
    refine one_of _ (e.trans ?_)
    rw [show Nat.beq h (c / 64) = true from hc ▸ Nat.beq_refl _]
    rfl
  · rw [if_neg hc]
    refine zero_of _ (e.trans ?_)
    rw [show Nat.beq h (c / 64) = false from by rw [← Bool.not_eq_true]; exact fun h' => hc (Nat.eq_of_beq_eq_true h')]
    rfl

/-- A sum against the spread's column is the column's head's term. -/
theorem sum_spread (hs : ∀ i, i < 16384 → spreadOk i = true) (g : Fin 16 → EReal) (c : Fin 1024) :
    ∑ h, g h * spread (ix2 h c) = g ⟨c / 64, by omega⟩ := by
  rw [Finset.sum_eq_single (⟨c / 64, by omega⟩ : Fin 16)]
  · rw [spread_at hs, if_pos rfl, mul_one]
  · intro h _ hh
    rw [spread_at hs, if_neg (fun e => hh (Fin.ext e)), mul_zero]
  · exact fun h => absurd (Finset.mem_univ _) h

/-- The mask's entry is the number its word writes. -/
theorem mask_at (i : Fin 2048) (o : Fin 69) :
    (maskAt (69 * i + o) = 0 → mask (ix3 ⟨i / 256, by omega⟩ ⟨i % 256, by omega⟩ o) = 0)
    ∧ (maskAt (69 * i + o) = 1065353216 → mask (ix3 ⟨i / 256, by omega⟩ ⟨i % 256, by omega⟩ o) = 1) := by
  have e : mask (ix3 ⟨i / 256, by omega⟩ ⟨i % 256, by omega⟩ o) = (FloatOps.ofBits (F := Ideal) .f32 (lit0 (Fin.ofNat 141312 (69 * i + o))) : EReal) := by
    show (FloatOps.ofBits (F := Ideal) .f32 (lit0 (S8x256x69.rowMajor (ix3 _ _ o))) : EReal) = _
    rw [number3]
    simp only
    rw [show 256 * ((i : ℕ) / 256) + i % 256 = i by omega]
  rw [e]
  exact ⟨zero_of _, one_of _⟩

end Cert.Proof.Arrays
-- ==== Proof.Score.lean ====
/- The score of a pair of rows for a head: the two-layer network the kernel and the reference share, without the second layer's bias. -/
module

public import proofs.«01_k».proof.Proof.Softmax

@[expose] public section

noncomputable section

namespace Cert.Proof.Arith

open Idealize.ShloMosaic

/-- The score of row `i` with row `j` for head `h`, from the projected rows. -/
def score (p : Fin 2048 → Fin 1024 → EReal) (wq wn : Fin 64 → Fin 64 → EReal) (b1 w2 : Fin 64 → EReal) (i j : Fin 2048) (h : Fin 16) : EReal :=
  ∑ e : Fin 64, max ((∑ d : Fin 64, p i ⟨64 * h + d, by omega⟩ * wq d e) + (∑ d : Fin 64, p j ⟨64 * h + d, by omega⟩ * wn d e) + b1 e) 0 * w2 e

/-- The score of real rows under real weights is real. -/
theorem score_real (p : Fin 2048 → Fin 1024 → EReal) (wq wn : Fin 64 → Fin 64 → EReal) (b1 w2 : Fin 64 → EReal) (i j : Fin 2048) (h : Fin 16)
    (hp : ∀ i k, IsReal (p i k)) (hq : ∀ d e, IsReal (wq d e)) (hn : ∀ d e, IsReal (wn d e)) (hb : ∀ e, IsReal (b1 e)) (hw : ∀ e, IsReal (w2 e)) :
    IsReal (score p wq wn b1 w2 i j h) :=
  isReal_sum _ _ fun e => (((((isReal_sum _ _ fun d => (hp _ _).mul (hq _ _)).add (isReal_sum _ _ fun d => (hp _ _).mul (hn _ _))).add (hb e)).max isReal_zero).mul (hw e))

/-- `soft_mean` for extended reals that are real. -/
theorem soft_mean_of (z p : Fin 32 → EReal) (z0 b t : EReal) (hz : ∀ k, IsReal (z k)) (hp : ∀ k, IsReal (p k)) (h0 : IsReal z0) (hb : IsReal b) (ht : IsReal t) :
    Ideal.div (∑ k, Ideal.exp (z k - z0) * p k) (∑ k, Ideal.exp (z k - z0))
      = ∑ k, Ideal.div (Ideal.exp (z k + b - t)) (∑ j, Ideal.exp (z j + b - t)) * p k := by
  choose zr ez using hz
  choose pr ep using hp
  obtain ⟨z0r, rfl⟩ := h0
  obtain ⟨br, rfl⟩ := hb
  obtain ⟨tr, rfl⟩ := ht
  obtain rfl : z = fun k => (zr k : EReal) := funext ez
  obtain rfl : p = fun k => (pr k : EReal) := funext ep
  exact soft_mean (by decide) zr pr z0r br tr

end Cert.Proof.Arith
-- ==== Proof.KernelValue.lean ====
/- The second kernel's result over the arrays the program builds, as sums over the routes of a row. -/
module

public import proofs.«01_k».proof.Proof.KernelArrays
public import proofs.«01_k».proof.Proof.Fused
public import proofs.«01_k».proof.Proof.Score

@[expose] public section

set_option maxRecDepth 16384

noncomputable section

namespace Cert.Proof.Arrays

open Idealize.ShloMosaic Idealize.ShloMosaic.TcCoe Idealize.SL.Sem Cert.KernelIdeal Cert.KernelIdeal.Gen Cert.Proof.Host Cert.Proof.Proj Cert.Proof.Entry
  Cert.Proof.Fuse Cert.Proof.Arith Cert.Proof.Rows

variable (x : FVec Ideal S2048x1024 .f32) (w : FVec Ideal S1024x1024 .f32) (wq wn : FVec Ideal S64x64 .f32) (b1 : FVec Ideal S64 .f32) (w2 : FVec Ideal S64x1 .f32)

/-- The second layer's block-diagonal column as the kernel reads it. -/
def cols : FVec Ideal S1024x16 .bf16 := truncf .bf16 (diagCol w2) bitsLt_bf16_f32

/-- The score of two rows under the program's arguments. -/
def sc (i j : Fin 2048) (h : Fin 16) : EReal :=
  score (projE x w) (fun d e => wq (ix2 d e)) (fun d e => wn (ix2 d e)) (fun e => b1 (ix1 e)) (fun e => w2 (ix2 e 0)) i j h

/-- A row of a padded array that is row `j` of the array itself. -/
theorem prow_at (a : FVec Ideal S2048x1024 .bf16) (n : ℕ) (j : Fin 2048) (k : Fin 1024) (h : n = j + 34) : prow (padA a) n k = a (ix2 j k) := by
  unfold prow
  have e : n % 2304 = j + 34 := by omega
  rw [padA_at a ⟨n % 2304, _⟩ k (by simp only; omega) (by simp only; omega)]
  exact congrArg (fun i => a (ix2 i k)) (Fin.ext (by simp only; omega))

/-- The kernel's logit is the score. -/
theorem logit_eq (i j : Fin 2048) (o : ℕ) (h : Fin 16) (ho : (i : ℕ) + o = j + 34) :
    logitR (selfA x w (both wq wn) (biasRow b1)) (padA (nbrA x w (both wq wn))) (cols w2) i o h = sc x w wq wn b1 w2 i j h := by
  unfold logitR
  refine (sum_diagCol (fun k => max (selfA x w (both wq wn) (biasRow b1) (ix2 i k) + prow (padA (nbrA x w (both wq wn))) (i + o) k) 0) w2 h).trans ?_
  unfold sc score
  refine Finset.sum_congr rfl fun e _ => ?_
  refine congrArg (fun a => max a 0 * _) ?_
  rw [prow_at _ _ j _ ho]
  show selfE x w (both wq wn) (biasRow b1) i ⟨64 * h + e, _⟩ + nbrE x w (both wq wn) j ⟨64 * h + e, _⟩ = _
  unfold selfE nbrE
  have e1 := sum_diag (projE x w i) wq h e
  have e2 := sum_diag (projE x w j) wn h e
  rw [biasRow_at, ← e1, ← e2]
  have f1 : ∀ k, projE x w i k * both wq wn (ix2 k ⟨(⟨64 * h + e, by omega⟩ : Fin 1024), by omega⟩) = projE x w i k * diag wq (ix2 k ⟨64 * h + e, by omega⟩) :=
    fun k => congrArg _ (both_left wq wn k ⟨64 * h + e, by omega⟩)
  have f2 : ∀ k, projE x w j k * both wq wn (ix2 k ⟨1024 + (⟨64 * h + e, by omega⟩ : Fin 1024), by omega⟩) = projE x w j k * diag wn (ix2 k ⟨64 * h + e, by omega⟩) :=
    fun k => congrArg _ (both_right wq wn k ⟨64 * h + e, by omega⟩)
  rw [Finset.sum_congr rfl fun k _ => f1 k, Finset.sum_congr rfl fun k _ => f2 k]
  exact add_right_comm _ _ _

/-- The fused row at a column is the mean of the routes' projected rows under exponentials of scores relative to the row's own. -/
theorem fused_eq (hs : ∀ i, i < 16384 → spreadOk i = true) (i : Fin 2048) (c : Fin 1024) (off : Fin 32 → Fin 69) (r : Fin 32 → Fin 2048)
    (h1 : ∀ k, (i : ℕ) + off k = r k + 34)
    (h2 : ∀ o : Fin 69, (maskAt (69 * i + o) = 0 ∧ (Finset.univ.filter fun k => off k = o).card = 0)
      ∨ (maskAt (69 * i + o) = 1065353216 ∧ (Finset.univ.filter fun k => off k = o).card = 1)) :
    fusedR (selfA x w (both wq wn) (biasRow b1)) (padA (nbrA x w (both wq wn))) (padA (projA x w)) (cols w2) mask spread i c
      = Ideal.div (∑ k, Ideal.exp (sc x w wq wn b1 w2 i (r k) ⟨c / 64, by omega⟩ - sc x w wq wn b1 w2 i i ⟨c / 64, by omega⟩) * projE x w (r k) c)
        (∑ k, Ideal.exp (sc x w wq wn b1 w2 i (r k) ⟨c / 64, by omega⟩ - sc x w wq wn b1 w2 i i ⟨c / 64, by omega⟩)) := by
  unfold fusedR
  have e0 := logit_eq x w wq wn b1 w2 i i 34 ⟨c / 64, by omega⟩ rfl
  have ek : ∀ k, logitR (selfA x w (both wq wn) (biasRow b1)) (padA (nbrA x w (both wq wn))) (cols w2) i (off k) ⟨c / 64, by omega⟩
      = sc x w wq wn b1 w2 i (r k) ⟨c / 64, by omega⟩ := fun k => logit_eq x w wq wn b1 w2 i (r k) (off k) _ (h1 k)
  rw [sum_spread hs (fun h => ∑ o, wgtR (selfA x w (both wq wn) (biasRow b1)) (padA (nbrA x w (both wq wn))) (cols w2) mask i o h) c]
  simp only [sum_spread hs]
  rw [sum_routes off _ (fun o => Ideal.exp (logitR (selfA x w (both wq wn) (biasRow b1)) (padA (nbrA x w (both wq wn))) (cols w2) i o ⟨c / 64, by omega⟩
      - logitR (selfA x w (both wq wn) (biasRow b1)) (padA (nbrA x w (both wq wn))) (cols w2) i 34 ⟨c / 64, by omega⟩) * prow (padA (projA x w)) (i + o) c),
    sum_routes off _ (fun o => Ideal.exp (logitR (selfA x w (both wq wn) (biasRow b1)) (padA (nbrA x w (both wq wn))) (cols w2) i o ⟨c / 64, by omega⟩
      - logitR (selfA x w (both wq wn) (biasRow b1)) (padA (nbrA x w (both wq wn))) (cols w2) i 34 ⟨c / 64, by omega⟩))]
  · refine congrArg₂ Ideal.div (Finset.sum_congr rfl fun k _ => ?_) (Finset.sum_congr rfl fun k _ => ?_)
    · rw [ek, e0, prow_at _ _ (r k) _ (h1 k)]
      rfl
    · rw [ek, e0]
  · intro o
    unfold wgtR
    rcases h2 o with ⟨a, b⟩ | ⟨a, b⟩
    · exact .inl ⟨by rw [(mask_at i o).1 a, mul_zero], b⟩
    · exact .inr ⟨by rw [(mask_at i o).2 a, mul_one], b⟩
  · intro o
    unfold wgtR
    rcases h2 o with ⟨a, b⟩ | ⟨a, b⟩
    · exact .inl ⟨by rw [(mask_at i o).1 a, mul_zero, zero_mul], b⟩
    · exact .inr ⟨by rw [(mask_at i o).2 a, mul_one], b⟩

end Cert.Proof.Arrays
-- ==== Proof.KernelSide.lean ====
/- The kernel's result at an index as a function of the program's nine arguments. -/
module

public import proofs.«01_k».proof.Proof.KernelRun
public import proofs.«01_k».proof.Proof.KernelValue

@[expose] public section

set_option maxRecDepth 16384

noncomputable section

namespace Cert.Proof.Arrays

open Idealize.ShloMosaic Idealize.ShloMosaic.TcCoe Idealize.SL.Sem Cert.KernelIdeal Cert.KernelIdeal.Gen Cert.Proof.Host Cert.Proof.Proj Cert.Proof.Entry
  Cert.Proof.Fuse Cert.Proof.Arith Cert.Proof.Rows

/-- The input as rows. -/
def flat (x : FVec Ideal S1x2048x1024 .f32) : FVec Ideal S2048x1024 .f32 := shapeCast S2048x1024 x shapeCasts_S1x2048x1024_S2048x1024

/-- The rows at an index. -/
theorem flat_at (x : FVec Ideal S1x2048x1024 .f32) (s : Fin 2048) (k : Fin 1024) : flat x (ix2 s k) = x (ix3 0 s k) := by
  pointwise [flat]

/-- An array of rows, given its leading axis, at an index. -/
theorem unflat_at (a : FVec Ideal S2048x1024 .f32) (s : Fin 2048) (d : Fin 1024) :
    shapeCast S1x2048x1024 a shapeCasts_S2048x1024_S1x2048x1024 (ix3 0 s d) = a (ix2 s d) := by
  pointwise []

/-- The output's matrix as the kernel reads it. -/
def half (w : FVec Ideal S1024x1024 .f32) : FVec Ideal S1024x1024 .bf16 := truncf .bf16 w bitsLt_bf16_f32

/-- The kernel's value of the nine arguments. -/
def kernelVal (x : FVec Ideal S1x2048x1024 .f32) (w : FVec Ideal S1024x1024 .f32) (wq wn : FVec Ideal S64x64 .f32) (b1 : FVec Ideal S64 .f32)
    (w2 : FVec Ideal S64x1 .f32) (b2 : FVec Ideal S1 .f32) (wo : FVec Ideal S1024x1024 .f32) (bo : FVec Ideal S1024 .f32) (s : Fin 2048) (d : Fin 1024) : EReal :=
  (∑ k : Fin 1024, fusedR (selfA (flat x) w (both wq wn) (biasRow b1)) (padA (nbrA (flat x) w (both wq wn))) (padA (projA (flat x) w)) (cols w2) mask spread s k * wo (ix2 k d))
    + bo (ix1 d) + x (ix3 0 s d)

variable (m : (ℓ : Loc nD τ sig) → Buf (Elt Ideal) ℓ) (ρ : Dev nD → PrngReg)

/-- The result array at an index is that value of the arguments. -/
theorem kernel_at (c : Dev nD) (s : Fin 2048) (d : Fin 1024) : KernelRun.kernelOut m ρ c (ix3 0 s d)
    = kernelVal (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) s d := by
  unfold KernelRun.kernelOut
  rw [unflat_at, in_self, in_v0, in_nbr, in_proj, in_v12, in_cst, in_out, in_v22, in_v21]
  have h0 : V6 m ρ c main_v0 = flat (m ((c : Thread nD τ).loc main_arg0)) := v0_in m ρ c
  have h1 : V6 m ρ c main_arg1 = m ((c : Thread nD τ).loc main_arg1) := W6_args m ρ c main_arg1 (by decide)
  have h10 : V6 m ρ c main_v10 = both (m ((c : Thread nD τ).loc main_arg2)) (m ((c : Thread nD τ).loc main_arg3)) := v10_in m ρ c
  have h12 : V6 m ρ c main_v12 = cols (m ((c : Thread nD τ).loc main_arg5)) := v12_eq m ρ c
  have h16 : V6 m ρ c main_v16 = biasRow (m ((c : Thread nD τ).loc main_arg4)) := v16_eq m ρ c
  have h21 : V6 m ρ c main_v21 = outRow (m ((c : Thread nD τ).loc main_arg8)) (m ((c : Thread nD τ).loc main_arg6)) := v21_eq m ρ c
  have h22 : V6 m ρ c main_v22 = spread := v22_eq m ρ c
  have hc : V6 m ρ c main_cst = mask := cst_in m ρ c
  rw [h0, h1, h10, h12, h16, h21, h22, hc]
  show outR _ _ _ _ _ _ _ _ _ s d = _
  unfold outR kernelVal
  rw [outRow_at, flat_at]
  rfl

end Cert.Proof.Arrays
-- ==== Proof.RefGather.lean ====
/- The reference's table of routes and its gather of rows, at an index. -/
module

public import proofs.«01_k».proof.Proof.Gen.ReferenceIdeal.Run
public import Idealize.ShloMosaic.Lib.ValueIdx
public import Idealize.ShloMosaic.Lib.Pointwise

@[expose] public section

set_option maxRecDepth 16384

noncomputable section

namespace Cert.Proof.Ref

open Idealize.ShloMosaic Idealize.ShloMosaic.TcCoe Idealize.SL.Sem Cert.ReferenceIdeal Cert.ReferenceIdeal.Gen

/-- The routes as the program holds them. -/
def rts : IVec S2048x32 32 := fun i => lit0 (S2048x32.rowMajor i)

/-- The route of a row as a number. -/
def route (s : Fin 2048) (k : Fin 32) : ℕ := (rts (ix2 s k)).toNat

/-- The gather's start indices: the routes, a negative one counted from the end. -/
def starts : IVec S2048x32x1 32 :=
  broadcastInDim S2048x32x1 ![0, 1] bcast_S2048x32_S2048x32x1_0_1
    (select (cmpi .slt rts (broadcastInDim S2048x32 ![] bcast_S_S2048x32 (constantI S_ 32 0#32)))
      (addi rts (broadcastInDim S2048x32 ![] bcast_S_S2048x32 (constantI S_ 32 2048#32))) rts)

/-- Whether a start index lies in the array. -/
def inside : IVec S2048x32 1 :=
  Host.reduce IntOp.andi (andi (cmpi .sge starts (broadcastInDim S2048x32x1 ![] bcast_S_S2048x32x1 (constantI S_ 32 0#32)))
    (cmpi .sle starts (broadcastInDim S2048x32x1 ![0, 1, 2] bcast_S1x1x1_S2048x32x1_0_1_2 (broadcastInDim S1x1x1 ![2] bcast_S1_S1x1x1_2 (constantI S1 32 2047#32)))))
    (constantI S_ 1 1#1) reducesTo_S2048x32x1_S2048x32_d2 h_S_

/-- The rows of the routes. -/
def gathered (hh : FVec Ideal S1x2048x16x64 .f32) : FVec Ideal S1x2048x32x16x64 .f32 :=
  select (broadcastInDim S1x2048x32x16x64 ![1, 2] bcast_S2048x32_S1x2048x32x16x64_1_2 inside)
    (Host.gather gather_S1x2048x16x64_S2048x32x1_S1x2048x32x16x64_034_1_n_n_1_2_111664 hh starts)
    (broadcastInDim S1x2048x32x16x64 ![] bcast_S_S1x2048x32x16x64 (constant S_ .f32 0x7FC00000#32))

/-- What the three comparisons of a word below 2048 say. -/
theorem cmps (w : BitVec 32) (h : w.toNat < 2048) : IntOp.cmpi CmpIPredicate.slt w 0#32 = 0#1
    ∧ IntOp.cmpi CmpIPredicate.sge w 0#32 = 1#1 ∧ IntOp.cmpi CmpIPredicate.sle w 2047#32 = 1#1 ∧ w.toInt.toNat = w.toNat := by
  have e : ∀ n : Fin 2048, IntOp.cmpi CmpIPredicate.slt (BitVec.ofNat 32 n) 0#32 = 0#1
      ∧ IntOp.cmpi CmpIPredicate.sge (BitVec.ofNat 32 n) 0#32 = 1#1 ∧ IntOp.cmpi CmpIPredicate.sle (BitVec.ofNat 32 n) 2047#32 = 1#1
      ∧ (BitVec.ofNat 32 n).toInt.toNat = (BitVec.ofNat 32 n).toNat := by decide +kernel
  have h1 := e ⟨w.toNat, h⟩
  have h2 : BitVec.ofNat 32 w.toNat = w := by simp
  simp only [h2] at h1
  exact h1

/-- A start index is the route. -/
theorem starts_at (s : Fin 2048) (k : Fin 32) (h : route s k < 2048) : starts (ix3 s k 0) = rts (ix2 s k) := by
  pointwise [starts]
  rw [(cmps _ h).1]
  rfl

/-- Every start index is inside. -/
theorem inside_at (s : Fin 2048) (k : Fin 32) (h : route s k < 2048) : inside (ix2 s k) = 1#1 := by
  pointwise [inside]
  rw [Finset.univ_unique, Finset.fold_singleton]
  show IntOp.andi (IntOp.andi (IntOp.cmpi CmpIPredicate.sge (starts (ix3 s k 0)) 0#32) (IntOp.cmpi CmpIPredicate.sle (starts (ix3 s k 0)) 2047#32)) 1#1 = 1#1
  rw [starts_at s k h, (cmps _ h).2.1, (cmps _ h).2.2.1]
  rfl

/-- The gather at an index. -/
theorem gather_at (hh : FVec Ideal S1x2048x16x64 .f32) (st : IVec S2048x32x1 32) (s : Fin 2048) (k : Fin 32) (h : Fin 16) (d : Fin 64) :
    Host.gather gather_S1x2048x16x64_S2048x32x1_S1x2048x32x16x64_034_1_n_n_1_2_111664 hh st (ix5 0 s k h d)
      = hh (ix4 0 ⟨min (st (ix3 s k 0)).toInt.toNat 2047, by omega⟩ h d) := by
  unfold Host.gather
  refine congrArg hh (funext fun a => Fin.ext ?_)
  match a with
  | ⟨0, _⟩ => rfl
  | ⟨1, _⟩ =>
    show min (st _).toInt.toNat 2047 = min (st _).toInt.toNat 2047
    refine congrArg (fun i => min (st i).toInt.toNat 2047) (funext fun b => Fin.ext ?_)
    match b with
    | ⟨0, _⟩ => rfl
    | ⟨1, _⟩ => rfl
    | ⟨2, _⟩ => rfl
  | ⟨2, _⟩ =>
    show 0 + 0 + (h : ℕ) = h
    omega
  | ⟨3, _⟩ =>
    show 0 + 0 + (d : ℕ) = d
    omega

/-- The gathered row is the route's row. -/
theorem gathered_at (hh : FVec Ideal S1x2048x16x64 .f32) (s : Fin 2048) (k : Fin 32) (h : Fin 16) (d : Fin 64) (hr : route s k < 2048) :
    gathered hh (ix5 0 s k h d) = hh (ix4 0 ⟨route s k, hr⟩ h d) := by
  have e : gathered hh (ix5 0 s k h d) = Scalar.select (inside (ix2 s k))
      (Host.gather gather_S1x2048x16x64_S2048x32x1_S1x2048x32x16x64_034_1_n_n_1_2_111664 hh starts (ix5 0 s k h d)) (FloatOps.ofBits .f32 0x7FC00000#32) := by
    pointwise [gathered]
  rw [e, inside_at s k hr, gather_at]
  show hh _ = hh _
  refine congrArg (fun i => hh (ix4 0 i h d)) (Fin.ext ?_)
  show min (starts (ix3 s k 0)).toInt.toNat 2047 = route s k
  rw [starts_at s k hr, (cmps _ hr).2.2.2]
  unfold route at hr ⊢
  omega

end Cert.Proof.Ref
-- ==== Proof.RefValue.lean ====
/- The reference's result at an index, over the extended reals. -/
module

public import proofs.«01_k».proof.Proof.RefGather
public import proofs.«01_k».proof.Proof.Softmax

@[expose] public section

set_option maxRecDepth 16384

noncomputable section

namespace Cert.Proof.Ref

open Idealize.ShloMosaic Idealize.ShloMosaic.TcCoe Idealize.SL.Sem Cert.ReferenceIdeal Cert.ReferenceIdeal.Gen

/-- The projected rows, by heads. -/
def heads (x : FVec Ideal S1x2048x1024 .f32) (w : FVec Ideal S1024x1024 .f32) : FVec Ideal S1x2048x16x64 .f32 :=
  shapeCast _ (Host.dotGeneral dot_S1x2048x1024_S1024x1024_S1x2048x1024_2_0_01_1_n_n none x w) shapeCasts_S1x2048x1024_S1x2048x16x64

/-- The projected rows by heads, at an index. -/
theorem heads_at (x : FVec Ideal S1x2048x1024 .f32) (w : FVec Ideal S1024x1024 .f32) (s : Fin 2048) (h : Fin 16) (d : Fin 64) :
    heads x w (ix4 0 s h d) = ∑ k : Fin 1024, x (ix3 0 s k) * w (ix2 k ⟨64 * h + d, by omega⟩) := by
  pointwise [heads]
  refine Finset.sum_congr rfl fun k _ => congrArg (fun e => _ * w (ix2 k e)) (Fin.ext ?_)
  simp only
  omega

/-- The first layer's sum for a row and one of its routes, before the rectifier. -/
def layer (hh : FVec Ideal S1x2048x16x64 .f32) (g : FVec Ideal S1x2048x32x16x64 .f32) (wq wn : FVec Ideal S64x64 .f32) (b1 : FVec Ideal S64 .f32) :
    FVec Ideal S1x2048x32x16x64 .f32 :=
  addf (addf (broadcastInDim S1x2048x32x16x64 ![0, 1, 2, 3, 4] bcast_S1x2048x1x16x64_S1x2048x32x16x64_0_1_2_3_4 (broadcastInDim S1x2048x1x16x64 ![0, 1, 3, 4] bcast_S1x2048x16x64_S1x2048x1x16x64_0_1_3_4 (Host.dotGeneral dot_S1x2048x16x64_S64x64_S1x2048x16x64_3_0_012_1_n_n none hh wq)))
    (Host.dotGeneral dot_S1x2048x32x16x64_S64x64_S1x2048x32x16x64_4_0_0123_1_n_n none g wn))
    (broadcastInDim S1x2048x32x16x64 ![0, 1, 2, 3, 4] bcast_S1x1x1x1x64_S1x2048x32x16x64_0_1_2_3_4 (broadcastInDim S1x1x1x1x64 ![4] bcast_S64_S1x1x1x1x64_4 b1))

/-- The logits. -/
def logits (l : FVec Ideal S1x2048x32x16x64 .f32) (w2 : FVec Ideal S64x1 .f32) (b2 : FVec Ideal S1 .f32) : FVec Ideal S1x2048x32x16 .f32 :=
  addf (shapeCast _ (Host.dotGeneral dot_S1x2048x32x16x64_S64x1_S1x2048x32x16x1_4_0_0123_1_n_n none
      (maximumf l (broadcastInDim S1x2048x32x16x64 ![] bcast_S_S1x2048x32x16x64 (constant S_ .f32 0x00000000#32))) w2) shapeCasts_S1x2048x32x16x1_S1x2048x32x16)
    (broadcastInDim S1x2048x32x16 ![] bcast_S_S1x2048x32x16 (shapeCast _ b2 shapeCasts_S1_S_))

/-- The logits at an index. -/
theorem logits_at (hh : FVec Ideal S1x2048x16x64 .f32) (g : FVec Ideal S1x2048x32x16x64 .f32) (wq wn : FVec Ideal S64x64 .f32) (b1 : FVec Ideal S64 .f32)
    (w2 : FVec Ideal S64x1 .f32) (b2 : FVec Ideal S1 .f32) (s : Fin 2048) (k : Fin 32) (h : Fin 16) :
    logits (layer hh g wq wn b1) w2 b2 (ix4 0 s k h)
      = (∑ e : Fin 64, max ((∑ d : Fin 64, hh (ix4 0 s h d) * wq (ix2 d e)) + (∑ d : Fin 64, g (ix5 0 s k h d) * wn (ix2 d e)) + b1 (ix1 e)) 0
          * w2 (ix2 e 0)) + b2 (ix1 0) := by
  pointwise [logits, layer]

/-- The greatest logit of a row and a head. -/
def top (z : FVec Ideal S1x2048x32x16 .f32) : FVec Ideal S1x2048x16 .f32 :=
  maximumf (broadcastInDim S1x2048x16 ![] bcast_S_S1x2048x16 (constant S_ .f32 0xFF800000#32))
    (Host.reduce FloatOps.maximumf z (constant S_ .f32 0xFF800000#32) reducesTo_S1x2048x32x16_S1x2048x16_d2 h_S_)

/-- The greatest of real logits is real. -/
theorem top_real (z : FVec Ideal S1x2048x32x16 .f32) (s : Fin 2048) (h : Fin 16) (hz : ∀ k : Fin 32, Arith.IsReal (z (ix4 0 s k h))) :
    Arith.IsReal (top z (ix3 0 s h)) := by
  pointwise [top]
  have hb : Ideal.ofBits .f32 0xFF800000#32 = ⊥ := by simp [Ideal.ofBits, Ideal.ieee]
  rw [hb, max_bot_left]
  rcases Arith.fold_max Finset.univ (fun k : Fin 32 => z (ix4 0 s k h)) hz with e | e
  · exact e
  · exact absurd e Finset.univ_nonempty.ne_empty

/-- The exponentials of the logits less the greatest. -/
def exps (z : FVec Ideal S1x2048x32x16 .f32) : FVec Ideal S1x2048x32x16 .f32 :=
  Host.exp (subf z (broadcastInDim S1x2048x32x16 ![0, 1, 2, 3] bcast_S1x2048x1x16_S1x2048x32x16_0_1_2_3
    (broadcastInDim S1x2048x1x16 ![0, 1, 3] bcast_S1x2048x16_S1x2048x1x16_0_1_3 (top z))))

/-- The exponentials at an index. -/
theorem exps_at (z : FVec Ideal S1x2048x32x16 .f32) (s : Fin 2048) (k : Fin 32) (h : Fin 16) :
    exps z (ix4 0 s k h) = Ideal.exp (z (ix4 0 s k h) - top z (ix3 0 s h)) := by
  pointwise [exps]

/-- The softmax over a row's routes. -/
def soft (e : FVec Ideal S1x2048x32x16 .f32) : FVec Ideal S1x2048x32x16 .f32 :=
  Host.divf e (broadcastInDim S1x2048x32x16 ![0, 1, 2, 3] bcast_S1x2048x1x16_S1x2048x32x16_0_1_2_3
    (broadcastInDim S1x2048x1x16 ![0, 1, 3] bcast_S1x2048x16_S1x2048x1x16_0_1_3
      (Host.reduceAdd e (constant S_ .f32 0x00000000#32) reducesTo_S1x2048x32x16_S1x2048x16_d2 h_S_)))

/-- The softmax at an index. -/
theorem soft_at (e : FVec Ideal S1x2048x32x16 .f32) (s : Fin 2048) (k : Fin 32) (h : Fin 16) :
    soft e (ix4 0 s k h) = Ideal.div (e (ix4 0 s k h)) (∑ j : Fin 32, e (ix4 0 s j h)) := by
  pointwise [soft]

/-- The result. -/
def result (a : FVec Ideal S1x2048x32x16 .f32) (g : FVec Ideal S1x2048x32x16x64 .f32) (wo : FVec Ideal S1024x1024 .f32) (bo : FVec Ideal S1024 .f32)
    (x : FVec Ideal S1x2048x1024 .f32) : FVec Ideal S1x2048x1024 .f32 :=
  addf (addf (Host.dotGeneral dot_S1x2048x1024_S1024x1024_S1x2048x1024_2_0_01_1_n_n none
      (shapeCast _ (Host.dotGeneral dot_S1x2048x32x16_S1x2048x32x16x64_S1x2048x16x64_2_2_n_4_013_013 none a g) shapeCasts_S1x2048x16x64_S1x2048x1024) wo)
    (broadcastInDim S1x2048x1024 ![0, 1, 2] bcast_S1x1x1024_S1x2048x1024_0_1_2 (broadcastInDim S1x1x1024 ![2] bcast_S1024_S1x1x1024_2 bo))) x

/-- The result at an index. -/
theorem result_at (a : FVec Ideal S1x2048x32x16 .f32) (g : FVec Ideal S1x2048x32x16x64 .f32) (wo : FVec Ideal S1024x1024 .f32) (bo : FVec Ideal S1024 .f32)
    (x : FVec Ideal S1x2048x1024 .f32) (s : Fin 2048) (d : Fin 1024) :
    result a g wo bo x (ix3 0 s d)
      = (∑ c : Fin 1024, (∑ k : Fin 32, a (ix4 0 s k ⟨c / 64, by omega⟩) * g (ix5 0 s k ⟨c / 64, by omega⟩ ⟨c % 64, by omega⟩)) * wo (ix2 c d))
        + bo (ix1 d) + x (ix3 0 s d) := by
  pointwise [result]

variable (m : (ℓ : Loc nD τ sig) → Buf (Elt Ideal) ℓ)

/-- The program's result is the stages one after the other. -/
theorem res_eq (c : Dev nD) : Value.res_main_v34 m c
    = (let x : FVec Ideal S1x2048x1024 .f32 := m ((c.tc : Thread nD τ).loc main_arg0)
       let hh := heads x (m ((c.tc : Thread nD τ).loc main_arg1))
       let g := gathered hh
       result (soft (exps (logits (layer hh g (m ((c.tc : Thread nD τ).loc main_arg2)) (m ((c.tc : Thread nD τ).loc main_arg3)) (m ((c.tc : Thread nD τ).loc main_arg4)))
         (m ((c.tc : Thread nD τ).loc main_arg5)) (m ((c.tc : Thread nD τ).loc main_arg6))))) g
         (m ((c.tc : Thread nD τ).loc main_arg7)) (m ((c.tc : Thread nD τ).loc main_arg8)) x) := by
  unfold Value.res_main_v34
  rfl

end Cert.Proof.Ref
-- ==== Proof.RefSide.lean ====
/- The reference's result at an index, as softmax means of the routes' projected rows. -/
module

public import proofs.«01_k».proof.Proof.RefValue
public import proofs.«01_k».proof.Proof.Score
public import proofs.«01_k».proof.Proof.TableDefs

@[expose] public section

set_option maxRecDepth 16384

noncomputable section

namespace Cert.Proof.Ref

open Idealize.ShloMosaic Idealize.ShloMosaic.TcCoe Idealize.SL.Sem Cert.ReferenceIdeal Cert.ReferenceIdeal.Gen Cert.Proof.Arith

/-- The reference's value of the nine arguments, in stages. -/
def refOut (x : FVec Ideal S1x2048x1024 .f32) (w : FVec Ideal S1024x1024 .f32) (wq wn : FVec Ideal S64x64 .f32) (b1 : FVec Ideal S64 .f32)
    (w2 : FVec Ideal S64x1 .f32) (b2 : FVec Ideal S1 .f32) (wo : FVec Ideal S1024x1024 .f32) (bo : FVec Ideal S1024 .f32) : FVec Ideal S1x2048x1024 .f32 :=
  result (soft (exps (logits (layer (heads x w) (gathered (heads x w)) wq wn b1) w2 b2))) (gathered (heads x w)) wo bo x

/-- The projected rows. -/
def proj (x : FVec Ideal S1x2048x1024 .f32) (w : FVec Ideal S1024x1024 .f32) (i : Fin 2048) (d : Fin 1024) : EReal :=
  ∑ k : Fin 1024, x (ix3 0 i k) * w (ix2 k d)

/-- The routes' table by number is the table of routes. -/
theorem route_eq (s : Fin 2048) (k : Fin 32) : route s k = Rows.routeAt (32 * s + k) := by
  unfold route rts Rows.routeAt
  refine congrArg (fun i => (lit0 i).toNat) (Fin.ext ?_)
  rw [Shape.rowMajor_val_two]
  show (s : ℕ) * 32 + k = (32 * s + k) % 65536
  omega

/-- The reference's result at an index, given that the routes `r` of its row are in range and that the first seven arguments are real:
    a softmax over the routes, with some real number in the place of the greatest logit. -/
theorem ref_at (x : FVec Ideal S1x2048x1024 .f32) (w : FVec Ideal S1024x1024 .f32) (wq wn : FVec Ideal S64x64 .f32) (b1 : FVec Ideal S64 .f32)
    (w2 : FVec Ideal S64x1 .f32) (b2 : FVec Ideal S1 .f32) (wo : FVec Ideal S1024x1024 .f32) (bo : FVec Ideal S1024 .f32)
    (hx : ∀ i, IsReal (x i)) (hw : ∀ i, IsReal (w i)) (hq : ∀ i, IsReal (wq i)) (hn : ∀ i, IsReal (wn i)) (hb1 : ∀ i, IsReal (b1 i))
    (hw2 : ∀ i, IsReal (w2 i)) (hb2 : ∀ i, IsReal (b2 i))
    (s : Fin 2048) (d : Fin 1024) (r : Fin 32 → Fin 2048) (hr : ∀ k, route s k = r k) :
    ∃ t : Fin 16 → EReal, (∀ h, IsReal (t h)) ∧ refOut x w wq wn b1 w2 b2 wo bo (ix3 0 s d)
      = (∑ c : Fin 1024, (∑ k : Fin 32,
          Ideal.div (Ideal.exp (score (proj x w) (fun d e => wq (ix2 d e)) (fun d e => wn (ix2 d e)) (fun e => b1 (ix1 e)) (fun e => w2 (ix2 e 0)) s (r k) ⟨c / 64, by omega⟩ + b2 (ix1 0) - t ⟨c / 64, by omega⟩))
            (∑ j : Fin 32, Ideal.exp (score (proj x w) (fun d e => wq (ix2 d e)) (fun d e => wn (ix2 d e)) (fun e => b1 (ix1 e)) (fun e => w2 (ix2 e 0)) s (r j) ⟨c / 64, by omega⟩ + b2 (ix1 0) - t ⟨c / 64, by omega⟩))
          * proj x w (r k) c) * wo (ix2 c d)) + bo (ix1 d) + x (ix3 0 s d) := by
  have hlt : ∀ k, route s k < 2048 := fun k => hr k ▸ (r k).isLt
  have hg : ∀ (k : Fin 32) (h : Fin 16) (e : Fin 64), gathered (heads x w) (ix5 0 s k h e) = proj x w (r k) ⟨64 * h + e, by omega⟩ := fun k h e => by
    rw [gathered_at _ s k h e (hlt k), heads_at]
    exact congrArg (fun i => proj x w i ⟨64 * h + e, by omega⟩) (Fin.ext (hr k))
  have hz : ∀ (k : Fin 32) (h : Fin 16), logits (layer (heads x w) (gathered (heads x w)) wq wn b1) w2 b2 (ix4 0 s k h)
      = score (proj x w) (fun d e => wq (ix2 d e)) (fun d e => wn (ix2 d e)) (fun e => b1 (ix1 e)) (fun e => w2 (ix2 e 0)) s (r k) h + b2 (ix1 0) := fun k h => by
    rw [logits_at]
    simp only [hg, heads_at]
    rfl
  have hp : ∀ i k, IsReal (proj x w i k) := fun i k => isReal_sum _ _ fun _ => (hx _).mul (hw _)
  refine ⟨fun h => top (logits (layer (heads x w) (gathered (heads x w)) wq wn b1) w2 b2) (ix3 0 s h), fun h => top_real _ s h fun k => ?_, ?_⟩
  · rw [hz]
    exact (score_real _ _ _ _ _ _ _ _ hp (fun _ _ => hq _) (fun _ _ => hn _) (fun _ => hb1 _) (fun _ => hw2 _)).add (hb2 _)
  · unfold refOut
    rw [result_at]
    refine congrArg (· + _ + _) (Finset.sum_congr rfl fun c _ => congrArg (· * _) (Finset.sum_congr rfl fun k _ => ?_))
    simp only [soft_at, exps_at, hz, hg]
    refine congrArg (fun i => _ * proj x w (r k) i) (Fin.ext ?_)
    simp only
    omega

end Cert.Proof.Ref
-- ==== Proof.Join.lean ====
/- The kernel and the reference agree at every index when the first seven arguments are real. -/
module

public import proofs.«01_k».proof.Proof.KernelSide
public import proofs.«01_k».proof.Proof.RefSide

@[expose] public section

set_option maxRecDepth 16384

noncomputable section

namespace Cert.Proof.Join

open Idealize.ShloMosaic Cert.Proof.Arith Cert.Proof.Rows Cert.Proof.Arrays Cert.KernelIdeal

variable (x : FVec Ideal S1x2048x1024 .f32) (w : FVec Ideal S1024x1024 .f32) (wq wn : FVec Ideal S64x64 .f32) (b1 : FVec Ideal S64 .f32)
    (w2 : FVec Ideal S64x1 .f32) (b2 : FVec Ideal S1 .f32) (wo : FVec Ideal S1024x1024 .f32) (bo : FVec Ideal S1024 .f32)

/-- The two programs project the rows alike. -/
theorem proj_eq : Proj.projE (flat x) w = Ref.proj x w := by
  funext i d
  unfold Proj.projE Ref.proj
  exact Finset.sum_congr rfl fun k _ => congrArg (· * _) (flat_at x i k)

/-- The values agree at an index, given what the tables' checks say. -/
theorem agree (hrows : ∀ i, i < 2048 → rowOk routeAt maskAt i = true) (hs : ∀ i, i < 16384 → spreadOk i = true)
    (hx : ∀ i, IsReal (x i)) (hw : ∀ i, IsReal (w i)) (hq : ∀ i, IsReal (wq i)) (hn : ∀ i, IsReal (wn i)) (hb1 : ∀ i, IsReal (b1 i))
    (hw2 : ∀ i, IsReal (w2 i)) (hb2 : ∀ i, IsReal (b2 i)) (s : Fin 2048) (d : Fin 1024) :
    kernelVal x w wq wn b1 w2 b2 wo bo s d = Ref.refOut x w wq wn b1 w2 b2 wo bo (ix3 0 s d) := by
  obtain ⟨off, h1, h2⟩ := rowOk_sound routeAt maskAt s (hrows s s.isLt)
  obtain ⟨t, ht, e⟩ := Ref.ref_at x w wq wn b1 w2 b2 wo bo hx hw hq hn hb1 hw2 hb2 s d (fun k => ⟨routeAt (32 * s + k), (h1 k).1⟩)
    (fun k => Ref.route_eq s k)
  rw [e]
  unfold kernelVal
  have hp : ∀ i k, IsReal (Ref.proj x w i k) := fun i k => isReal_sum _ _ fun _ => (hx _).mul (hw _)
  refine congrArg (· + _ + _) (Finset.sum_congr rfl fun c _ => congrArg (· * _) ?_)
  rw [fused_eq (flat x) w wq wn b1 w2 hs s c off (fun k => ⟨routeAt (32 * s + k), (h1 k).1⟩) (fun k => (h1 k).2) h2]
  unfold sc
  rw [proj_eq]
  exact soft_mean_of _ _ _ _ _ (fun k => score_real _ _ _ _ _ _ _ _ hp (fun _ _ => hq _) (fun _ _ => hn _) (fun _ => hb1 _) (fun _ => hw2 _)) (fun k => hp _ _)
    (score_real _ _ _ _ _ _ _ _ hp (fun _ _ => hq _) (fun _ _ => hn _) (fun _ => hb1 _) (fun _ => hw2 _)) (hb2 _) (ht _)

/-- The values agree as arrays. -/
theorem agree_all (a : FVec Ideal S1x2048x1024 .f32) (ha : ∀ s d, a (ix3 0 s d) = kernelVal x w wq wn b1 w2 b2 wo bo s d)
    (hrows : ∀ i, i < 2048 → rowOk routeAt maskAt i = true) (hs : ∀ i, i < 16384 → spreadOk i = true)
    (hx : ∀ i, IsReal (x i)) (hw : ∀ i, IsReal (w i)) (hq : ∀ i, IsReal (wq i)) (hn : ∀ i, IsReal (wn i)) (hb1 : ∀ i, IsReal (b1 i))
    (hw2 : ∀ i, IsReal (w2 i)) (hb2 : ∀ i, IsReal (b2 i)) :
    Ref.refOut x w wq wn b1 w2 b2 wo bo = a := by
  funext y
  idx_vars y
  have h0 : y0 = 0 := Subsingleton.elim _ _
  subst h0
  rw [ha, agree x w wq wn b1 w2 b2 wo bo hrows hs hx hw hq hn hb1 hw2 hb2]

end Cert.Proof.Join
-- ==== Proof.Finite.lean ====
/- What the precondition says of the arguments: their entries are real numbers. -/
module

public import proofs.«01_k».proof.Proof.Gen.Pre_finite
public import proofs.«01_k».proof.Proof.Softmax
public import Idealize.ShloMosaic.Lib.ReduceAll

@[expose] public section

set_option maxRecDepth 16384

noncomputable section

namespace Cert.Proof.Finite

open Idealize.ShloMosaic Cert.Pre_finite Cert.Pre_finite.Facts Cert.Proof.Arith

/-- A value whose magnitude compares below infinity is real. -/
theorem real_of_cmp (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_of_ne (fun e => ?_) (fun e => ?_) <;> subst e <;> simp [Ideal.cmp] at h

/-- A scalar array has one index. -/
instance : Subsingleton S_.Idx := ⟨fun a b => funext fun i => i.elim0⟩

/-- A whole array whose magnitudes all compare below infinity has real entries. -/
theorem real_of_all {s : Shape} {axes : List (Fin s.rank)} (x : FVec Ideal s .f32) (hb : S_.BroadcastsInDim s ![]) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsReal (x i) :=
  real_of_cmp (x i) (Host.reduce_andi_all _ _ hr hu j e i)

/-- If a conjunction of bits is one, both bits are. -/
theorem and_one {a b : BitVec 1} (h : IntOp.andi a b = 1#1) : a = 1#1 ∧ b = 1#1 := by
  revert a b
  decide

/-- Under the precondition the entries of the first seven arguments are real. -/
theorem real (x : FVec Ideal S1x2048x1024 .f32) (w : FVec Ideal S1024x1024 .f32) (wq wn : FVec Ideal S64x64 .f32) (b1 : FVec Ideal S64 .f32)
    (w2 : FVec Ideal S64x1 .f32) (b2 : FVec Ideal S1 .f32) (wo : FVec Ideal S1024x1024 .f32) (bo : FVec Ideal S1024 .f32)
    (h : Cert.Pre_finite.fn (F := Ideal) x w wq wn b1 w2 b2 wo bo = fun _ => 1#1) :
    (∀ i, IsReal (x i)) ∧ (∀ i, IsReal (w i)) ∧ (∀ i, IsReal (wq i)) ∧ (∀ i, IsReal (wn i)) ∧ (∀ i, IsReal (b1 i)) ∧ (∀ i, IsReal (w2 i)) ∧ (∀ i, IsReal (b2 i)) := by
  have h0 : Cert.Pre_finite.fn (F := Ideal) x w wq wn b1 w2 b2 wo bo (fun a => a.elim0) = 1#1 := congrFun h _
  obtain ⟨h1, e6⟩ := and_one h0
  obtain ⟨h2, e5⟩ := and_one h1
  obtain ⟨h3, e4⟩ := and_one h2
  obtain ⟨h4, e3⟩ := and_one h3
  obtain ⟨h5, e2⟩ := and_one h4
  obtain ⟨e0, e1⟩ := and_one h5
  exact ⟨real_of_all x _ _ _ _ e0, real_of_all w _ _ _ _ e1, real_of_all wq _ _ _ _ e2, real_of_all wn _ _ _ _ e3, real_of_all b1 _ _ _ _ e4,
    real_of_all w2 _ _ _ _ e5, real_of_all b2 _ _ _ _ e6⟩

end Cert.Proof.Finite
-- ==== Proof.Algebraic.lean ====
/- The value claim: over the extended reals the kernel's result is the reference's, for arguments with finite entries. -/
module

public import proofs.«01_k».proof.Defs
public import proofs.«01_k».proof.Proof.Join
public import proofs.«01_k».proof.Proof.Finite
public import proofs.«01_k».proof.Proof.Gen.Pre_finite
public import Idealize.ShloMosaic.Adequacy
public import Idealize.ShloMosaic.Lib.Claim

@[expose] public section

noncomputable section

namespace Cert.Proof

open Idealize.ShloMosaic Idealize.SL.Sem

/-- The reference's result is the kernel's, when their arguments agree and are finite, given what the tables' checks say. -/
theorem value_eq (hrows : ∀ i, i < 2048 → Rows.rowOk Rows.routeAt Rows.maskAt i = true) (hs : ∀ i, i < 16384 → Rows.spreadOk i = true)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v34 m' c = KernelRun.kernelOut m g c := by
  refine (Ref.res_eq m' c).trans ?_
  rw [h0, h1, h2, h3, h4, h5, h6, h7, h8]
  obtain ⟨r0, r1, r2, r3, r4, r5, r6⟩ := Finite.real _ _ _ _ _ _ _ _ _ (hpre c)
  exact Join.agree_all _ _ _ _ _ _ _ _ _ _ (Arrays.kernel_at m g c) hrows hs r0 r1 r2 r3 r4 r5 r6

/-- The value claim, given what the tables' checks say. -/
theorem algebraic_of (hrows : ∀ i, i < 2048 → Rows.rowOk Rows.routeAt Rows.maskAt i = true) (hs : ∀ i, i < 16384 → Rows.spreadOk i = true) :
    Cert.algebraic_KernelIdeal_ReferenceIdeal_pre_finite := fun m g m' g' hpre hagree =>
  ⟨fun c => KernelRun.kernelOut m g c, KernelRun.run m g,
    (θ_run Cert.ReferenceIdeal.defs _ _).mono
      (fun r h c => by
        obtain ⟨h0, h1, h2, h3, h4, h5, h6, h7, h8⟩ := hagree c
        exact ⟨(h c).1.trans (value_eq hrows hs m g m' c hpre h0 h1 h2 h3 h4 h5 h6 h7 h8), (h c).2⟩)
      (Cert.ReferenceIdeal.Value.run (F := Ideal) m' g')⟩

end Cert.Proof

end
-- ==== Proof.Rows00.lean ====
/- Rows 0 to 63 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 0 to 15. -/
theorem rows_0 : allTo (fun j => rowOk routeAt maskAt (j + 0)) 16 = true := by decide +kernel

/-- Rows 16 to 31. -/
theorem rows_1 : allTo (fun j => rowOk routeAt maskAt (j + 16)) 16 = true := by decide +kernel

/-- Rows 32 to 47. -/
theorem rows_2 : allTo (fun j => rowOk routeAt maskAt (j + 32)) 16 = true := by decide +kernel

/-- Rows 48 to 63. -/
theorem rows_3 : allTo (fun j => rowOk routeAt maskAt (j + 48)) 16 = true := by decide +kernel

end Cert.Proof.Rows
-- ==== Proof.Rows01.lean ====
/- Rows 64 to 127 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 64 to 79. -/
theorem rows_4 : allTo (fun j => rowOk routeAt maskAt (j + 64)) 16 = true := by decide +kernel

/-- Rows 80 to 95. -/
theorem rows_5 : allTo (fun j => rowOk routeAt maskAt (j + 80)) 16 = true := by decide +kernel

/-- Rows 96 to 111. -/
theorem rows_6 : allTo (fun j => rowOk routeAt maskAt (j + 96)) 16 = true := by decide +kernel

/-- Rows 112 to 127. -/
theorem rows_7 : allTo (fun j => rowOk routeAt maskAt (j + 112)) 16 = true := by decide +kernel

end Cert.Proof.Rows
-- ==== Proof.Rows02.lean ====
/- Rows 128 to 191 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 128 to 143. -/
theorem rows_8 : allTo (fun j => rowOk routeAt maskAt (j + 128)) 16 = true := by decide +kernel

/-- Rows 144 to 159. -/
theorem rows_9 : allTo (fun j => rowOk routeAt maskAt (j + 144)) 16 = true := by decide +kernel

/-- Rows 160 to 175. -/
theorem rows_10 : allTo (fun j => rowOk routeAt maskAt (j + 160)) 16 = true := by decide +kernel

/-- Rows 176 to 191. -/
theorem rows_11 : allTo (fun j => rowOk routeAt maskAt (j + 176)) 16 = true := by decide +kernel

end Cert.Proof.Rows
-- ==== Proof.Rows03.lean ====
/- Rows 192 to 255 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 192 to 207. -/
theorem rows_12 : allTo (fun j => rowOk routeAt maskAt (j + 192)) 16 = true := by decide +kernel

/-- Rows 208 to 223. -/
theorem rows_13 : allTo (fun j => rowOk routeAt maskAt (j + 208)) 16 = true := by decide +kernel

/-- Rows 224 to 239. -/
theorem rows_14 : allTo (fun j => rowOk routeAt maskAt (j + 224)) 16 = true := by decide +kernel

/-- Rows 240 to 255. -/
theorem rows_15 : allTo (fun j => rowOk routeAt maskAt (j + 240)) 16 = true := by decide +kernel

end Cert.Proof.Rows
-- ==== Proof.Rows04.lean ====
/- Rows 256 to 319 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 256 to 271. -/
theorem rows_16 : allTo (fun j => rowOk routeAt maskAt (j + 256)) 16 = true := by decide +kernel

/-- Rows 272 to 287. -/
theorem rows_17 : allTo (fun j => rowOk routeAt maskAt (j + 272)) 16 = true := by decide +kernel

/-- Rows 288 to 303. -/
theorem rows_18 : allTo (fun j => rowOk routeAt maskAt (j + 288)) 16 = true := by decide +kernel

/-- Rows 304 to 319. -/
theorem rows_19 : allTo (fun j => rowOk routeAt maskAt (j + 304)) 16 = true := by decide +kernel

end Cert.Proof.Rows
-- ==== Proof.Rows05.lean ====
/- Rows 320 to 383 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 320 to 335. -/
theorem rows_20 : allTo (fun j => rowOk routeAt maskAt (j + 320)) 16 = true := by decide +kernel

/-- Rows 336 to 351. -/
theorem rows_21 : allTo (fun j => rowOk routeAt maskAt (j + 336)) 16 = true := by decide +kernel

/-- Rows 352 to 367. -/
theorem rows_22 : allTo (fun j => rowOk routeAt maskAt (j + 352)) 16 = true := by decide +kernel

/-- Rows 368 to 383. -/
theorem rows_23 : allTo (fun j => rowOk routeAt maskAt (j + 368)) 16 = true := by decide +kernel

end Cert.Proof.Rows
-- ==== Proof.Rows06.lean ====
/- Rows 384 to 447 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 384 to 399. -/
theorem rows_24 : allTo (fun j => rowOk routeAt maskAt (j + 384)) 16 = true := by decide +kernel

/-- Rows 400 to 415. -/
theorem rows_25 : allTo (fun j => rowOk routeAt maskAt (j + 400)) 16 = true := by decide +kernel

/-- Rows 416 to 431. -/
theorem rows_26 : allTo (fun j => rowOk routeAt maskAt (j + 416)) 16 = true := by decide +kernel

/-- Rows 432 to 447. -/
theorem rows_27 : allTo (fun j => rowOk routeAt maskAt (j + 432)) 16 = true := by decide +kernel

end Cert.Proof.Rows
-- ==== Proof.Rows07.lean ====
/- Rows 448 to 511 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 448 to 463. -/
theorem rows_28 : allTo (fun j => rowOk routeAt maskAt (j + 448)) 16 = true := by decide +kernel

/-- Rows 464 to 479. -/
theorem rows_29 : allTo (fun j => rowOk routeAt maskAt (j + 464)) 16 = true := by decide +kernel

/-- Rows 480 to 495. -/
theorem rows_30 : allTo (fun j => rowOk routeAt maskAt (j + 480)) 16 = true := by decide +kernel

/-- Rows 496 to 511. -/
theorem rows_31 : allTo (fun j => rowOk routeAt maskAt (j + 496)) 16 = true := by decide +kernel

end Cert.Proof.Rows
-- ==== Proof.Rows08.lean ====
/- Rows 512 to 575 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 512 to 527. -/
theorem rows_32 : allTo (fun j => rowOk routeAt maskAt (j + 512)) 16 = true := by decide +kernel

/-- Rows 528 to 543. -/
theorem rows_33 : allTo (fun j => rowOk routeAt maskAt (j + 528)) 16 = true := by decide +kernel

/-- Rows 544 to 559. -/
theorem rows_34 : allTo (fun j => rowOk routeAt maskAt (j + 544)) 16 = true := by decide +kernel

/-- Rows 560 to 575. -/
theorem rows_35 : allTo (fun j => rowOk routeAt maskAt (j + 560)) 16 = true := by decide +kernel

end Cert.Proof.Rows
-- ==== Proof.Rows09.lean ====
/- Rows 576 to 639 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 576 to 591. -/
theorem rows_36 : allTo (fun j => rowOk routeAt maskAt (j + 576)) 16 = true := by decide +kernel

/-- Rows 592 to 607. -/
theorem rows_37 : allTo (fun j => rowOk routeAt maskAt (j + 592)) 16 = true := by decide +kernel

/-- Rows 608 to 623. -/
theorem rows_38 : allTo (fun j => rowOk routeAt maskAt (j + 608)) 16 = true := by decide +kernel

/-- Rows 624 to 639. -/
theorem rows_39 : allTo (fun j => rowOk routeAt maskAt (j + 624)) 16 = true := by decide +kernel

end Cert.Proof.Rows
-- ==== Proof.Rows10.lean ====
/- Rows 640 to 703 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 640 to 655. -/
theorem rows_40 : allTo (fun j => rowOk routeAt maskAt (j + 640)) 16 = true := by decide +kernel

/-- Rows 656 to 671. -/
theorem rows_41 : allTo (fun j => rowOk routeAt maskAt (j + 656)) 16 = true := by decide +kernel

/-- Rows 672 to 687. -/
theorem rows_42 : allTo (fun j => rowOk routeAt maskAt (j + 672)) 16 = true := by decide +kernel

/-- Rows 688 to 703. -/
theorem rows_43 : allTo (fun j => rowOk routeAt maskAt (j + 688)) 16 = true := by decide +kernel

end Cert.Proof.Rows
-- ==== Proof.Rows11.lean ====
/- Rows 704 to 767 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 704 to 719. -/
theorem rows_44 : allTo (fun j => rowOk routeAt maskAt (j + 704)) 16 = true := by decide +kernel

/-- Rows 720 to 735. -/
theorem rows_45 : allTo (fun j => rowOk routeAt maskAt (j + 720)) 16 = true := by decide +kernel

/-- Rows 736 to 751. -/
theorem rows_46 : allTo (fun j => rowOk routeAt maskAt (j + 736)) 16 = true := by decide +kernel

/-- Rows 752 to 767. -/
theorem rows_47 : allTo (fun j => rowOk routeAt maskAt (j + 752)) 16 = true := by decide +kernel

end Cert.Proof.Rows
-- ==== Proof.Rows12.lean ====
/- Rows 768 to 831 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 768 to 783. -/
theorem rows_48 : allTo (fun j => rowOk routeAt maskAt (j + 768)) 16 = true := by decide +kernel

/-- Rows 784 to 799. -/
theorem rows_49 : allTo (fun j => rowOk routeAt maskAt (j + 784)) 16 = true := by decide +kernel

/-- Rows 800 to 815. -/
theorem rows_50 : allTo (fun j => rowOk routeAt maskAt (j + 800)) 16 = true := by decide +kernel

/-- Rows 816 to 831. -/
theorem rows_51 : allTo (fun j => rowOk routeAt maskAt (j + 816)) 16 = true := by decide +kernel

end Cert.Proof.Rows
-- ==== Proof.Rows13.lean ====
/- Rows 832 to 895 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 832 to 847. -/
theorem rows_52 : allTo (fun j => rowOk routeAt maskAt (j + 832)) 16 = true := by decide +kernel

/-- Rows 848 to 863. -/
theorem rows_53 : allTo (fun j => rowOk routeAt maskAt (j + 848)) 16 = true := by decide +kernel

/-- Rows 864 to 879. -/
theorem rows_54 : allTo (fun j => rowOk routeAt maskAt (j + 864)) 16 = true := by decide +kernel

/-- Rows 880 to 895. -/
theorem rows_55 : allTo (fun j => rowOk routeAt maskAt (j + 880)) 16 = true := by decide +kernel

end Cert.Proof.Rows
-- ==== Proof.Rows14.lean ====
/- Rows 896 to 959 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 896 to 911. -/
theorem rows_56 : allTo (fun j => rowOk routeAt maskAt (j + 896)) 16 = true := by decide +kernel

/-- Rows 912 to 927. -/
theorem rows_57 : allTo (fun j => rowOk routeAt maskAt (j + 912)) 16 = true := by decide +kernel

/-- Rows 928 to 943. -/
theorem rows_58 : allTo (fun j => rowOk routeAt maskAt (j + 928)) 16 = true := by decide +kernel

/-- Rows 944 to 959. -/
theorem rows_59 : allTo (fun j => rowOk routeAt maskAt (j + 944)) 16 = true := by decide +kernel

end Cert.Proof.Rows
-- ==== Proof.Rows15.lean ====
/- Rows 960 to 1023 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 960 to 975. -/
theorem rows_60 : allTo (fun j => rowOk routeAt maskAt (j + 960)) 16 = true := by decide +kernel

/-- Rows 976 to 991. -/
theorem rows_61 : allTo (fun j => rowOk routeAt maskAt (j + 976)) 16 = true := by decide +kernel

/-- Rows 992 to 1007. -/
theorem rows_62 : allTo (fun j => rowOk routeAt maskAt (j + 992)) 16 = true := by decide +kernel

/-- Rows 1008 to 1023. -/
theorem rows_63 : allTo (fun j => rowOk routeAt maskAt (j + 1008)) 16 = true := by decide +kernel

end Cert.Proof.Rows
-- ==== Proof.Rows16.lean ====
/- Rows 1024 to 1087 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1024 to 1039. -/
theorem rows_64 : allTo (fun j => rowOk routeAt maskAt (j + 1024)) 16 = true := by decide +kernel

/-- Rows 1040 to 1055. -/
theorem rows_65 : allTo (fun j => rowOk routeAt maskAt (j + 1040)) 16 = true := by decide +kernel

/-- Rows 1056 to 1071. -/
theorem rows_66 : allTo (fun j => rowOk routeAt maskAt (j + 1056)) 16 = true := by decide +kernel

/-- Rows 1072 to 1087. -/
theorem rows_67 : allTo (fun j => rowOk routeAt maskAt (j + 1072)) 16 = true := by decide +kernel

end Cert.Proof.Rows
-- ==== Proof.Rows17.lean ====
/- Rows 1088 to 1151 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1088 to 1103. -/
theorem rows_68 : allTo (fun j => rowOk routeAt maskAt (j + 1088)) 16 = true := by decide +kernel

/-- Rows 1104 to 1119. -/
theorem rows_69 : allTo (fun j => rowOk routeAt maskAt (j + 1104)) 16 = true := by decide +kernel

/-- Rows 1120 to 1135. -/
theorem rows_70 : allTo (fun j => rowOk routeAt maskAt (j + 1120)) 16 = true := by decide +kernel

/-- Rows 1136 to 1151. -/
theorem rows_71 : allTo (fun j => rowOk routeAt maskAt (j + 1136)) 16 = true := by decide +kernel

end Cert.Proof.Rows
-- ==== Proof.Rows18.lean ====
/- Rows 1152 to 1215 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1152 to 1167. -/
theorem rows_72 : allTo (fun j => rowOk routeAt maskAt (j + 1152)) 16 = true := by decide +kernel

/-- Rows 1168 to 1183. -/
theorem rows_73 : allTo (fun j => rowOk routeAt maskAt (j + 1168)) 16 = true := by decide +kernel

/-- Rows 1184 to 1199. -/
theorem rows_74 : allTo (fun j => rowOk routeAt maskAt (j + 1184)) 16 = true := by decide +kernel

/-- Rows 1200 to 1215. -/
theorem rows_75 : allTo (fun j => rowOk routeAt maskAt (j + 1200)) 16 = true := by decide +kernel

end Cert.Proof.Rows
-- ==== Proof.Rows19.lean ====
/- Rows 1216 to 1279 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1216 to 1231. -/
theorem rows_76 : allTo (fun j => rowOk routeAt maskAt (j + 1216)) 16 = true := by decide +kernel

/-- Rows 1232 to 1247. -/
theorem rows_77 : allTo (fun j => rowOk routeAt maskAt (j + 1232)) 16 = true := by decide +kernel

/-- Rows 1248 to 1263. -/
theorem rows_78 : allTo (fun j => rowOk routeAt maskAt (j + 1248)) 16 = true := by decide +kernel

/-- Rows 1264 to 1279. -/
theorem rows_79 : allTo (fun j => rowOk routeAt maskAt (j + 1264)) 16 = true := by decide +kernel

end Cert.Proof.Rows
-- ==== Proof.Rows20.lean ====
/- Rows 1280 to 1343 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1280 to 1295. -/
theorem rows_80 : allTo (fun j => rowOk routeAt maskAt (j + 1280)) 16 = true := by decide +kernel

/-- Rows 1296 to 1311. -/
theorem rows_81 : allTo (fun j => rowOk routeAt maskAt (j + 1296)) 16 = true := by decide +kernel

/-- Rows 1312 to 1327. -/
theorem rows_82 : allTo (fun j => rowOk routeAt maskAt (j + 1312)) 16 = true := by decide +kernel

/-- Rows 1328 to 1343. -/
theorem rows_83 : allTo (fun j => rowOk routeAt maskAt (j + 1328)) 16 = true := by decide +kernel

end Cert.Proof.Rows
-- ==== Proof.Rows21.lean ====
/- Rows 1344 to 1407 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1344 to 1359. -/
theorem rows_84 : allTo (fun j => rowOk routeAt maskAt (j + 1344)) 16 = true := by decide +kernel

/-- Rows 1360 to 1375. -/
theorem rows_85 : allTo (fun j => rowOk routeAt maskAt (j + 1360)) 16 = true := by decide +kernel

/-- Rows 1376 to 1391. -/
theorem rows_86 : allTo (fun j => rowOk routeAt maskAt (j + 1376)) 16 = true := by decide +kernel

/-- Rows 1392 to 1407. -/
theorem rows_87 : allTo (fun j => rowOk routeAt maskAt (j + 1392)) 16 = true := by decide +kernel

end Cert.Proof.Rows
-- ==== Proof.Rows22.lean ====
/- Rows 1408 to 1471 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1408 to 1423. -/
theorem rows_88 : allTo (fun j => rowOk routeAt maskAt (j + 1408)) 16 = true := by decide +kernel

/-- Rows 1424 to 1439. -/
theorem rows_89 : allTo (fun j => rowOk routeAt maskAt (j + 1424)) 16 = true := by decide +kernel

/-- Rows 1440 to 1455. -/
theorem rows_90 : allTo (fun j => rowOk routeAt maskAt (j + 1440)) 16 = true := by decide +kernel

/-- Rows 1456 to 1471. -/
theorem rows_91 : allTo (fun j => rowOk routeAt maskAt (j + 1456)) 16 = true := by decide +kernel

end Cert.Proof.Rows
-- ==== Proof.Rows23.lean ====
/- Rows 1472 to 1535 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1472 to 1487. -/
theorem rows_92 : allTo (fun j => rowOk routeAt maskAt (j + 1472)) 16 = true := by decide +kernel

/-- Rows 1488 to 1503. -/
theorem rows_93 : allTo (fun j => rowOk routeAt maskAt (j + 1488)) 16 = true := by decide +kernel

/-- Rows 1504 to 1519. -/
theorem rows_94 : allTo (fun j => rowOk routeAt maskAt (j + 1504)) 16 = true := by decide +kernel

/-- Rows 1520 to 1535. -/
theorem rows_95 : allTo (fun j => rowOk routeAt maskAt (j + 1520)) 16 = true := by decide +kernel

end Cert.Proof.Rows
-- ==== Proof.Rows24.lean ====
/- Rows 1536 to 1599 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1536 to 1551. -/
theorem rows_96 : allTo (fun j => rowOk routeAt maskAt (j + 1536)) 16 = true := by decide +kernel

/-- Rows 1552 to 1567. -/
theorem rows_97 : allTo (fun j => rowOk routeAt maskAt (j + 1552)) 16 = true := by decide +kernel

/-- Rows 1568 to 1583. -/
theorem rows_98 : allTo (fun j => rowOk routeAt maskAt (j + 1568)) 16 = true := by decide +kernel

/-- Rows 1584 to 1599. -/
theorem rows_99 : allTo (fun j => rowOk routeAt maskAt (j + 1584)) 16 = true := by decide +kernel

end Cert.Proof.Rows
-- ==== Proof.Rows25.lean ====
/- Rows 1600 to 1663 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1600 to 1615. -/
theorem rows_100 : allTo (fun j => rowOk routeAt maskAt (j + 1600)) 16 = true := by decide +kernel

/-- Rows 1616 to 1631. -/
theorem rows_101 : allTo (fun j => rowOk routeAt maskAt (j + 1616)) 16 = true := by decide +kernel

/-- Rows 1632 to 1647. -/
theorem rows_102 : allTo (fun j => rowOk routeAt maskAt (j + 1632)) 16 = true := by decide +kernel

/-- Rows 1648 to 1663. -/
theorem rows_103 : allTo (fun j => rowOk routeAt maskAt (j + 1648)) 16 = true := by decide +kernel

end Cert.Proof.Rows
-- ==== Proof.Rows26.lean ====
/- Rows 1664 to 1727 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1664 to 1679. -/
theorem rows_104 : allTo (fun j => rowOk routeAt maskAt (j + 1664)) 16 = true := by decide +kernel

/-- Rows 1680 to 1695. -/
theorem rows_105 : allTo (fun j => rowOk routeAt maskAt (j + 1680)) 16 = true := by decide +kernel

/-- Rows 1696 to 1711. -/
theorem rows_106 : allTo (fun j => rowOk routeAt maskAt (j + 1696)) 16 = true := by decide +kernel

/-- Rows 1712 to 1727. -/
theorem rows_107 : allTo (fun j => rowOk routeAt maskAt (j + 1712)) 16 = true := by decide +kernel

end Cert.Proof.Rows
-- ==== Proof.Rows27.lean ====
/- Rows 1728 to 1791 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1728 to 1743. -/
theorem rows_108 : allTo (fun j => rowOk routeAt maskAt (j + 1728)) 16 = true := by decide +kernel

/-- Rows 1744 to 1759. -/
theorem rows_109 : allTo (fun j => rowOk routeAt maskAt (j + 1744)) 16 = true := by decide +kernel

/-- Rows 1760 to 1775. -/
theorem rows_110 : allTo (fun j => rowOk routeAt maskAt (j + 1760)) 16 = true := by decide +kernel

/-- Rows 1776 to 1791. -/
theorem rows_111 : allTo (fun j => rowOk routeAt maskAt (j + 1776)) 16 = true := by decide +kernel

end Cert.Proof.Rows
-- ==== Proof.Rows28.lean ====
/- Rows 1792 to 1855 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1792 to 1807. -/
theorem rows_112 : allTo (fun j => rowOk routeAt maskAt (j + 1792)) 16 = true := by decide +kernel

/-- Rows 1808 to 1823. -/
theorem rows_113 : allTo (fun j => rowOk routeAt maskAt (j + 1808)) 16 = true := by decide +kernel

/-- Rows 1824 to 1839. -/
theorem rows_114 : allTo (fun j => rowOk routeAt maskAt (j + 1824)) 16 = true := by decide +kernel

/-- Rows 1840 to 1855. -/
theorem rows_115 : allTo (fun j => rowOk routeAt maskAt (j + 1840)) 16 = true := by decide +kernel

end Cert.Proof.Rows
-- ==== Proof.Rows29.lean ====
/- Rows 1856 to 1919 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1856 to 1871. -/
theorem rows_116 : allTo (fun j => rowOk routeAt maskAt (j + 1856)) 16 = true := by decide +kernel

/-- Rows 1872 to 1887. -/
theorem rows_117 : allTo (fun j => rowOk routeAt maskAt (j + 1872)) 16 = true := by decide +kernel

/-- Rows 1888 to 1903. -/
theorem rows_118 : allTo (fun j => rowOk routeAt maskAt (j + 1888)) 16 = true := by decide +kernel

/-- Rows 1904 to 1919. -/
theorem rows_119 : allTo (fun j => rowOk routeAt maskAt (j + 1904)) 16 = true := by decide +kernel

end Cert.Proof.Rows
-- ==== Proof.Rows30.lean ====
/- Rows 1920 to 1983 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1920 to 1935. -/
theorem rows_120 : allTo (fun j => rowOk routeAt maskAt (j + 1920)) 16 = true := by decide +kernel

/-- Rows 1936 to 1951. -/
theorem rows_121 : allTo (fun j => rowOk routeAt maskAt (j + 1936)) 16 = true := by decide +kernel

/-- Rows 1952 to 1967. -/
theorem rows_122 : allTo (fun j => rowOk routeAt maskAt (j + 1952)) 16 = true := by decide +kernel

/-- Rows 1968 to 1983. -/
theorem rows_123 : allTo (fun j => rowOk routeAt maskAt (j + 1968)) 16 = true := by decide +kernel

end Cert.Proof.Rows
-- ==== Proof.Rows31.lean ====
/- Rows 1984 to 2047 of the mask against the routes, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Rows 1984 to 1999. -/
theorem rows_124 : allTo (fun j => rowOk routeAt maskAt (j + 1984)) 16 = true := by decide +kernel

/-- Rows 2000 to 2015. -/
theorem rows_125 : allTo (fun j => rowOk routeAt maskAt (j + 2000)) 16 = true := by decide +kernel

/-- Rows 2016 to 2031. -/
theorem rows_126 : allTo (fun j => rowOk routeAt maskAt (j + 2016)) 16 = true := by decide +kernel

/-- Rows 2032 to 2047. -/
theorem rows_127 : allTo (fun j => rowOk routeAt maskAt (j + 2032)) 16 = true := by decide +kernel

end Cert.Proof.Rows
-- ==== Proof.Spread0.lean ====
/- Half of the spread table, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Entries 0 to 2047. -/
theorem spread_0 : allTo (fun j => spreadOk (j + 0)) 2048 = true := by decide +kernel

/-- Entries 2048 to 4095. -/
theorem spread_1 : allTo (fun j => spreadOk (j + 2048)) 2048 = true := by decide +kernel

/-- Entries 4096 to 6143. -/
theorem spread_2 : allTo (fun j => spreadOk (j + 4096)) 2048 = true := by decide +kernel

/-- Entries 6144 to 8191. -/
theorem spread_3 : allTo (fun j => spreadOk (j + 6144)) 2048 = true := by decide +kernel

end Cert.Proof.Rows
-- ==== Proof.Spread1.lean ====
/- Half of the spread table, checked by computation. -/
module

public import proofs.«01_k».proof.Proof.TableDefs
public import proofs.«01_k».proof.Proof.RowCheck
import all proofs.«01_k».proof.KernelIdeal
import all proofs.«01_k».proof.ReferenceIdeal

@[expose] public section

set_option maxRecDepth 65536

namespace Cert.Proof.Rows

/-- Entries 8192 to 10239. -/
theorem spread_4 : allTo (fun j => spreadOk (j + 8192)) 2048 = true := by decide +kernel

/-- Entries 10240 to 12287. -/
theorem spread_5 : allTo (fun j => spreadOk (j + 10240)) 2048 = true := by decide +kernel

/-- Entries 12288 to 14335. -/
theorem spread_6 : allTo (fun j => spreadOk (j + 12288)) 2048 = true := by decide +kernel

/-- Entries 14336 to 16383. -/
theorem spread_7 : allTo (fun j => spreadOk (j + 14336)) 2048 = true := by decide +kernel

end Cert.Proof.Rows
-- ==== Proof.Tables.lean ====
/- The tables' rows together. -/
module

public import proofs.«01_k».proof.Proof.Rows00
public import proofs.«01_k».proof.Proof.Rows01
public import proofs.«01_k».proof.Proof.Rows02
public import proofs.«01_k».proof.Proof.Rows03
public import proofs.«01_k».proof.Proof.Rows04
public import proofs.«01_k».proof.Proof.Rows05
public import proofs.«01_k».proof.Proof.Rows06
public import proofs.«01_k».proof.Proof.Rows07
public import proofs.«01_k».proof.Proof.Rows08
public import proofs.«01_k».proof.Proof.Rows09
public import proofs.«01_k».proof.Proof.Rows10
public import proofs.«01_k».proof.Proof.Rows11
public import proofs.«01_k».proof.Proof.Rows12
public import proofs.«01_k».proof.Proof.Rows13
public import proofs.«01_k».proof.Proof.Rows14
public import proofs.«01_k».proof.Proof.Rows15
public import proofs.«01_k».proof.Proof.Rows16
public import proofs.«01_k».proof.Proof.Rows17
public import proofs.«01_k».proof.Proof.Rows18
public import proofs.«01_k».proof.Proof.Rows19
public import proofs.«01_k».proof.Proof.Rows20
public import proofs.«01_k».proof.Proof.Rows21
public import proofs.«01_k».proof.Proof.Rows22
public import proofs.«01_k».proof.Proof.Rows23
public import proofs.«01_k».proof.Proof.Rows24
public import proofs.«01_k».proof.Proof.Rows25
public import proofs.«01_k».proof.Proof.Rows26
public import proofs.«01_k».proof.Proof.Rows27
public import proofs.«01_k».proof.Proof.Rows28
public import proofs.«01_k».proof.Proof.Rows29
public import proofs.«01_k».proof.Proof.Rows30
public import proofs.«01_k».proof.Proof.Rows31
public import proofs.«01_k».proof.Proof.Spread0
public import proofs.«01_k».proof.Proof.Spread1

@[expose] public section

namespace Cert.Proof.Rows

/-- A check of consecutive numbers, at one of them. -/
theorem allTo_at (f : ℕ → Bool) (n b w : ℕ) (h : allTo (fun j => f (j + b)) w = true) (hb : b ≤ n) (hn : n < b + w) : f n = true := by
  have h1 := allTo_get _ w h (n - b) (by omega)
  simpa only [Nat.sub_add_cancel hb] using h1

/-- Every row passes its check. -/
theorem rows_ok (i : ℕ) (h : i < 2048) : rowOk routeAt maskAt i = true := by
  by_cases h64 : i < 1024
  · by_cases h32 : i < 512
    · by_cases h16 : i < 256
      · by_cases h8 : i < 128
        · by_cases h4 : i < 64
          · by_cases h2 : i < 32
            · by_cases h1 : i < 16
              · exact allTo_at _ i _ 16 rows_0 (by omega) (by omega)
              · exact allTo_at _ i _ 16 rows_1 (by omega) (by omega)
            · by_cases h3 : i < 48
              · exact allTo_at _ i _ 16 rows_2 (by omega) (by omega)
              · exact allTo_at _ i _ 16 rows_3 (by omega) (by omega)
          · by_cases h6 : i < 96
            · by_cases h5 : i < 80
              · exact allTo_at _ i _ 16 rows_4 (by omega) (by omega)
              · exact allTo_at _ i _ 16 rows_5 (by omega) (by omega)
            · by_cases h7 : i < 112
              · exact allTo_at _ i _ 16 rows_6 (by omega) (by omega)
              · exact allTo_at _ i _ 16 rows_7 (by omega) (by omega)
        · by_cases h12 : i < 192
          · by_cases h10 : i < 160
            · by_cases h9 : i < 144
              · exact allTo_at _ i _ 16 rows_8 (by omega) (by omega)
              · exact allTo_at _ i _ 16 rows_9 (by omega) (by omega)
            · by_cases h11 : i < 176
              · exact allTo_at _ i _ 16 rows_10 (by omega) (by omega)
              · exact allTo_at _ i _ 16 rows_11 (by omega) (by omega)
          · by_cases h14 : i < 224
            · by_cases h13 : i < 208
              · exact allTo_at _ i _ 16 rows_12 (by omega) (by omega)
              · exact allTo_at _ i _ 16 rows_13 (by omega) (by omega)
            · by_cases h15 : i < 240
              · exact allTo_at _ i _ 16 rows_14 (by omega) (by omega)
              · exact allTo_at _ i _ 16 rows_15 (by omega) (by omega)
      · by_cases h24 : i < 384
        · by_cases h20 : i < 320
          · by_cases h18 : i < 288
            · by_cases h17 : i < 272
              · exact allTo_at _ i _ 16 rows_16 (by omega) (by omega)
              · exact allTo_at _ i _ 16 rows_17 (by omega) (by omega)
            · by_cases h19 : i < 304
              · exact allTo_at _ i _ 16 rows_18 (by omega) (by omega)
              · exact allTo_at _ i _ 16 rows_19 (by omega) (by omega)
          · by_cases h22 : i < 352
            · by_cases h21 : i < 336
              · exact allTo_at _ i _ 16 rows_20 (by omega) (by omega)
              · exact allTo_at _ i _ 16 rows_21 (by omega) (by omega)
            · by_cases h23 : i < 368
              · exact allTo_at _ i _ 16 rows_22 (by omega) (by omega)
              · exact allTo_at _ i _ 16 rows_23 (by omega) (by omega)
        · by_cases h28 : i < 448
          · by_cases h26 : i < 416
            · by_cases h25 : i < 400
              · exact allTo_at _ i _ 16 rows_24 (by omega) (by omega)
              · exact allTo_at _ i _ 16 rows_25 (by omega) (by omega)
            · by_cases h27 : i < 432
              · exact allTo_at _ i _ 16 rows_26 (by omega) (by omega)
              · exact allTo_at _ i _ 16 rows_27 (by omega) (by omega)
          · by_cases h30 : i < 480
            · by_cases h29 : i < 464
              · exact allTo_at _ i _ 16 rows_28 (by omega) (by omega)
              · exact allTo_at _ i _ 16 rows_29 (by omega) (by omega)
            · by_cases h31 : i < 496
              · exact allTo_at _ i _ 16 rows_30 (by omega) (by omega)
              · exact allTo_at _ i _ 16 rows_31 (by omega) (by omega)
    · by_cases h48 : i < 768
      · by_cases h40 : i < 640
        · by_cases h36 : i < 576
          · by_cases h34 : i < 544
            · by_cases h33 : i < 528
              · exact allTo_at _ i _ 16 rows_32 (by omega) (by omega)
              · exact allTo_at _ i _ 16 rows_33 (by omega) (by omega)
            · by_cases h35 : i < 560
              · exact allTo_at _ i _ 16 rows_34 (by omega) (by omega)
              · exact allTo_at _ i _ 16 rows_35 (by omega) (by omega)
          · by_cases h38 : i < 608
            · by_cases h37 : i < 592
              · exact allTo_at _ i _ 16 rows_36 (by omega) (by omega)
              · exact allTo_at _ i _ 16 rows_37 (by omega) (by omega)
            · by_cases h39 : i < 624
              · exact allTo_at _ i _ 16 rows_38 (by omega) (by omega)
              · exact allTo_at _ i _ 16 rows_39 (by omega) (by omega)
        · by_cases h44 : i < 704
          · by_cases h42 : i < 672
            · by_cases h41 : i < 656
              · exact allTo_at _ i _ 16 rows_40 (by omega) (by omega)
              · exact allTo_at _ i _ 16 rows_41 (by omega) (by omega)
            · by_cases h43 : i < 688
              · exact allTo_at _ i _ 16 rows_42 (by omega) (by omega)
              · exact allTo_at _ i _ 16 rows_43 (by omega) (by omega)
          · by_cases h46 : i < 736
            · by_cases h45 : i < 720
              · exact allTo_at _ i _ 16 rows_44 (by omega) (by omega)
              · exact allTo_at _ i _ 16 rows_45 (by omega) (by omega)
            · by_cases h47 : i < 752
              · exact allTo_at _ i _ 16 rows_46 (by omega) (by omega)
              · exact allTo_at _ i _ 16 rows_47 (by omega) (by omega)
      · by_cases h56 : i < 896
        · by_cases h52 : i < 832
          · by_cases h50 : i < 800
            · by_cases h49 : i < 784
              · exact allTo_at _ i _ 16 rows_48 (by omega) (by omega)
              · exact allTo_at _ i _ 16 rows_49 (by omega) (by omega)
            · by_cases h51 : i < 816
              · exact allTo_at _ i _ 16 rows_50 (by omega) (by omega)
              · exact allTo_at _ i _ 16 rows_51 (by omega) (by omega)
          · by_cases h54 : i < 864
            · by_cases h53 : i < 848
              · exact allTo_at _ i _ 16 rows_52 (by omega) (by omega)
              · exact allTo_at _ i _ 16 rows_53 (by omega) (by omega)
            · by_cases h55 : i < 880
              · exact allTo_at _ i _ 16 rows_54 (by omega) (by omega)
              · exact allTo_at _ i _ 16 rows_55 (by omega) (by omega)
        · by_cases h60 : i < 960
          · by_cases h58 : i < 928
            · by_cases h57 : i < 912
              · exact allTo_at _ i _ 16 rows_56 (by omega) (by omega)
              · exact allTo_at _ i _ 16 rows_57 (by omega) (by omega)
            · by_cases h59 : i < 944
              · exact allTo_at _ i _ 16 rows_58 (by omega) (by omega)
              · exact allTo_at _ i _ 16 rows_59 (by omega) (by omega)
          · by_cases h62 : i < 992
            · by_cases h61 : i < 976
              · exact allTo_at _ i _ 16 rows_60 (by omega) (by omega)
              · exact allTo_at _ i _ 16 rows_61 (by omega) (by omega)
            · by_cases h63 : i < 1008
              · exact allTo_at _ i _ 16 rows_62 (by omega) (by omega)
              · exact allTo_at _ i _ 16 rows_63 (by omega) (by omega)
  · by_cases h96 : i < 1536
    · by_cases h80 : i < 1280
      · by_cases h72 : i < 1152
        · by_cases h68 : i < 1088
          · by_cases h66 : i < 1056
            · by_cases h65 : i < 1040
              · exact allTo_at _ i _ 16 rows_64 (by omega) (by omega)
              · exact allTo_at _ i _ 16 rows_65 (by omega) (by omega)
            · by_cases h67 : i < 1072
              · exact allTo_at _ i _ 16 rows_66 (by omega) (by omega)
              · exact allTo_at _ i _ 16 rows_67 (by omega) (by omega)
          · by_cases h70 : i < 1120
            · by_cases h69 : i < 1104
              · exact allTo_at _ i _ 16 rows_68 (by omega) (by omega)
              · exact allTo_at _ i _ 16 rows_69 (by omega) (by omega)
            · by_cases h71 : i < 1136
              · exact allTo_at _ i _ 16 rows_70 (by omega) (by omega)
              · exact allTo_at _ i _ 16 rows_71 (by omega) (by omega)
        · by_cases h76 : i < 1216
          · by_cases h74 : i < 1184
            · by_cases h73 : i < 1168
              · exact allTo_at _ i _ 16 rows_72 (by omega) (by omega)
              · exact allTo_at _ i _ 16 rows_73 (by omega) (by omega)
            · by_cases h75 : i < 1200
              · exact allTo_at _ i _ 16 rows_74 (by omega) (by omega)
              · exact allTo_at _ i _ 16 rows_75 (by omega) (by omega)
          · by_cases h78 : i < 1248
            · by_cases h77 : i < 1232
              · exact allTo_at _ i _ 16 rows_76 (by omega) (by omega)
              · exact allTo_at _ i _ 16 rows_77 (by omega) (by omega)
            · by_cases h79 : i < 1264
              · exact allTo_at _ i _ 16 rows_78 (by omega) (by omega)
              · exact allTo_at _ i _ 16 rows_79 (by omega) (by omega)
      · by_cases h88 : i < 1408
        · by_cases h84 : i < 1344
          · by_cases h82 : i < 1312
            · by_cases h81 : i < 1296
              · exact allTo_at _ i _ 16 rows_80 (by omega) (by omega)
              · exact allTo_at _ i _ 16 rows_81 (by omega) (by omega)
            · by_cases h83 : i < 1328
              · exact allTo_at _ i _ 16 rows_82 (by omega) (by omega)
              · exact allTo_at _ i _ 16 rows_83 (by omega) (by omega)
          · by_cases h86 : i < 1376
            · by_cases h85 : i < 1360
              · exact allTo_at _ i _ 16 rows_84 (by omega) (by omega)
              · exact allTo_at _ i _ 16 rows_85 (by omega) (by omega)
            · by_cases h87 : i < 1392
              · exact allTo_at _ i _ 16 rows_86 (by omega) (by omega)
              · exact allTo_at _ i _ 16 rows_87 (by omega) (by omega)
        · by_cases h92 : i < 1472
          · by_cases h90 : i < 1440
            · by_cases h89 : i < 1424
              · exact allTo_at _ i _ 16 rows_88 (by omega) (by omega)
              · exact allTo_at _ i _ 16 rows_89 (by omega) (by omega)
            · by_cases h91 : i < 1456
              · exact allTo_at _ i _ 16 rows_90 (by omega) (by omega)
              · exact allTo_at _ i _ 16 rows_91 (by omega) (by omega)
          · by_cases h94 : i < 1504
            · by_cases h93 : i < 1488
              · exact allTo_at _ i _ 16 rows_92 (by omega) (by omega)
              · exact allTo_at _ i _ 16 rows_93 (by omega) (by omega)
            · by_cases h95 : i < 1520
              · exact allTo_at _ i _ 16 rows_94 (by omega) (by omega)
              · exact allTo_at _ i _ 16 rows_95 (by omega) (by omega)
    · by_cases h112 : i < 1792
      · by_cases h104 : i < 1664
        · by_cases h100 : i < 1600
          · by_cases h98 : i < 1568
            · by_cases h97 : i < 1552
              · exact allTo_at _ i _ 16 rows_96 (by omega) (by omega)
              · exact allTo_at _ i _ 16 rows_97 (by omega) (by omega)
            · by_cases h99 : i < 1584
              · exact allTo_at _ i _ 16 rows_98 (by omega) (by omega)
              · exact allTo_at _ i _ 16 rows_99 (by omega) (by omega)
          · by_cases h102 : i < 1632
            · by_cases h101 : i < 1616
              · exact allTo_at _ i _ 16 rows_100 (by omega) (by omega)
              · exact allTo_at _ i _ 16 rows_101 (by omega) (by omega)
            · by_cases h103 : i < 1648
              · exact allTo_at _ i _ 16 rows_102 (by omega) (by omega)
              · exact allTo_at _ i _ 16 rows_103 (by omega) (by omega)
        · by_cases h108 : i < 1728
          · by_cases h106 : i < 1696
            · by_cases h105 : i < 1680
              · exact allTo_at _ i _ 16 rows_104 (by omega) (by omega)
              · exact allTo_at _ i _ 16 rows_105 (by omega) (by omega)
            · by_cases h107 : i < 1712
              · exact allTo_at _ i _ 16 rows_106 (by omega) (by omega)
              · exact allTo_at _ i _ 16 rows_107 (by omega) (by omega)
          · by_cases h110 : i < 1760
            · by_cases h109 : i < 1744
              · exact allTo_at _ i _ 16 rows_108 (by omega) (by omega)
              · exact allTo_at _ i _ 16 rows_109 (by omega) (by omega)
            · by_cases h111 : i < 1776
              · exact allTo_at _ i _ 16 rows_110 (by omega) (by omega)
              · exact allTo_at _ i _ 16 rows_111 (by omega) (by omega)
      · by_cases h120 : i < 1920
        · by_cases h116 : i < 1856
          · by_cases h114 : i < 1824
            · by_cases h113 : i < 1808
              · exact allTo_at _ i _ 16 rows_112 (by omega) (by omega)
              · exact allTo_at _ i _ 16 rows_113 (by omega) (by omega)
            · by_cases h115 : i < 1840
              · exact allTo_at _ i _ 16 rows_114 (by omega) (by omega)
              · exact allTo_at _ i _ 16 rows_115 (by omega) (by omega)
          · by_cases h118 : i < 1888
            · by_cases h117 : i < 1872
              · exact allTo_at _ i _ 16 rows_116 (by omega) (by omega)
              · exact allTo_at _ i _ 16 rows_117 (by omega) (by omega)
            · by_cases h119 : i < 1904
              · exact allTo_at _ i _ 16 rows_118 (by omega) (by omega)
              · exact allTo_at _ i _ 16 rows_119 (by omega) (by omega)
        · by_cases h124 : i < 1984
          · by_cases h122 : i < 1952
            · by_cases h121 : i < 1936
              · exact allTo_at _ i _ 16 rows_120 (by omega) (by omega)
              · exact allTo_at _ i _ 16 rows_121 (by omega) (by omega)
            · by_cases h123 : i < 1968
              · exact allTo_at _ i _ 16 rows_122 (by omega) (by omega)
              · exact allTo_at _ i _ 16 rows_123 (by omega) (by omega)
          · by_cases h126 : i < 2016
            · by_cases h125 : i < 2000
              · exact allTo_at _ i _ 16 rows_124 (by omega) (by omega)
              · exact allTo_at _ i _ 16 rows_125 (by omega) (by omega)
            · by_cases h127 : i < 2032
              · exact allTo_at _ i _ 16 rows_126 (by omega) (by omega)
              · exact allTo_at _ i _ 16 rows_127 (by omega) (by omega)

/-- Every entry of the spread table passes its check. -/
theorem spreads_ok (i : ℕ) (h : i < 16384) : spreadOk i = true := by
  by_cases h4 : i < 8192
  · by_cases h2 : i < 4096
    · by_cases h1 : i < 2048
      · exact allTo_at _ i _ 2048 spread_0 (by omega) (by omega)
      · exact allTo_at _ i _ 2048 spread_1 (by omega) (by omega)
    · by_cases h3 : i < 6144
      · exact allTo_at _ i _ 2048 spread_2 (by omega) (by omega)
      · exact allTo_at _ i _ 2048 spread_3 (by omega) (by omega)
  · by_cases h6 : i < 12288
    · by_cases h5 : i < 10240
      · exact allTo_at _ i _ 2048 spread_4 (by omega) (by omega)
      · exact allTo_at _ i _ 2048 spread_5 (by omega) (by omega)
    · by_cases h7 : i < 14336
      · exact allTo_at _ i _ 2048 spread_6 (by omega) (by omega)
      · exact allTo_at _ i _ 2048 spread_7 (by omega) (by omega)

end Cert.Proof.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import proofs.«01_k».proof.Proof.Tables
public import Idealize.ShloMosaic.Adequacy
public import Idealize.ShloMosaic.Init

@[expose] public section

noncomputable section

namespace Cert.Proof

open Idealize.ShloMosaic Idealize.SL.Sem Cert.Kernel

/-- Everything the certificate claims: the programs' frames, that the idealized kernel is the kernel with its format changes dropped,
    and that its value is the reference's for finite arguments. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, frame_reference_finite, trivial, algebraic_of Rows.rows_ok Rows.spreads_ok⟩

end Cert.Proof

end
